-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 4096]⟩ ⟨2, ![512, 16384]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S256x512 .bf16) (main_arg1 : FVec F S512x4096 .bf16) : IVec S_ 1 :=
  let main_cst : FVec F S_ .bf16 := constant S_ .bf16 0xFF80#16
  let main_v0 : FVec F S256x512 .bf16 := broadcastInDim S256x512 ![] bcast_S_S256x512 main_cst
  let main_v1 : IVec S256x512 1 := cmpf .ogt main_arg0 main_v0
  let main_cst_0 : FVec F S_ .bf16 := constant S_ .bf16 0x7F80#16
  let main_v2 : FVec F S256x512 .bf16 := broadcastInDim S256x512 ![] bcast_S_S256x512 main_cst_0
  let main_v3 : IVec S256x512 1 := cmpf .olt main_arg0 main_v2
  let main_v4 : IVec S256x512 1 := andi main_v1 main_v3
  let main_c : IVec S_ 1 := constantI S_ 1 1#1
  let main_v5 : IVec S_ 1 := (fun x v => Host.reduce IntOp.andi x v reducesTo_S256x512_S_d0_1 h_S_) main_v4 main_c
  let main_cst_1 : FVec F S_ .bf16 := constant S_ .bf16 0xFF80#16
  let main_v6 : FVec F S512x4096 .bf16 := broadcastInDim S512x4096 ![] bcast_S_S512x4096 main_cst_1
  let main_v7 : IVec S512x4096 1 := cmpf .ogt main_arg1 main_v6
  let main_cst_2 : FVec F S_ .bf16 := constant S_ .bf16 0x7F80#16
  let main_v8 : FVec F S512x4096 .bf16 := broadcastInDim S512x4096 ![] bcast_S_S512x4096 main_cst_2
  let main_v9 : IVec S512x4096 1 := cmpf .olt main_arg1 main_v8
  let main_v10 : IVec S512x4096 1 := andi main_v7 main_v9
  let main_c_3 : IVec S_ 1 := constantI S_ 1 1#1
  let main_v11 : IVec S_ 1 := (fun x v => Host.reduce IntOp.andi x v reducesTo_S512x4096_S_d0_1 h_S_) main_v10 main_c_3
  let main_v12 : IVec S_ 1 := andi main_v5 main_v11
  main_v12
-- ==== Pre_finite_ReferenceIdeal.lean ====
abbrev S256x512 : Shape := ⟨2, ![256, 512]⟩
abbrev S512x16384 : Shape := ⟨2, ![512, 16384]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x16384 : S_.BroadcastsInDim S512x16384 (![] : Fin 0 → Fin S512x16384.rank)
  reducesTo_S512x16384_S_d0_1 : S512x16384.ReducesTo [0, 1] S_

variable [Facts]

def fn {F : FTy → Type} [FloatOps F] (main_arg0 : FVec F S256x512 .bf16) (main_arg1 : FVec F S512x16384 .bf16) : IVec S_ 1 :=
  let main_cst : FVec F S_ .bf16 := constant S_ .bf16 0xFF80#16
  let main_v0 : FVec F S256x512 .bf16 := broadcastInDim S256x512 ![] bcast_S_S256x512 main_cst
  let main_v1 : IVec S256x512 1 := cmpf .ogt main_arg0 main_v0
  let main_cst_0 : FVec F S_ .bf16 := constant S_ .bf16 0x7F80#16
  let main_v2 : FVec F S256x512 .bf16 := broadcastInDim S256x512 ![] bcast_S_S256x512 main_cst_0
  let main_v3 : IVec S256x512 1 := cmpf .olt main_arg0 main_v2
  let main_v4 : IVec S256x512 1 := andi main_v1 main_v3
  let main_c : IVec S_ 1 := constantI S_ 1 1#1
  let main_v5 : IVec S_ 1 := (fun x v => Host.reduce IntOp.andi x v reducesTo_S256x512_S_d0_1 h_S_) main_v4 main_c
  let main_cst_1 : FVec F S_ .bf16 := constant S_ .bf16 0xFF80#16
  let main_v6 : FVec F S512x16384 .bf16 := broadcastInDim S512x16384 ![] bcast_S_S512x16384 main_cst_1
  let main_v7 : IVec S512x16384 1 := cmpf .ogt main_arg1 main_v6
  let main_cst_2 : FVec F S_ .bf16 := constant S_ .bf16 0x7F80#16
  let main_v8 : FVec F S512x16384 .bf16 := broadcastInDim S512x16384 ![] bcast_S_S512x16384 main_cst_2
  let main_v9 : IVec S512x16384 1 := cmpf .olt main_arg1 main_v8
  let main_v10 : IVec S512x16384 1 := andi main_v7 main_v9
  let main_c_3 : IVec S_ 1 := constantI S_ 1 1#1
  let main_v11 : IVec S_ 1 := (fun x v => Host.reduce IntOp.andi x v reducesTo_S512x16384_S_d0_1 h_S_) main_v10 main_c_3
  let main_v12 : IVec S_ 1 := andi main_v5 main_v11
  main_v12
-- ==== Kernel.lean ====
abbrev S256x512 : Shape := ⟨2, ![256, 512]⟩
abbrev S512x4096 : Shape := ⟨2, ![512, 4096]⟩
abbrev S256x16384 : Shape := ⟨2, ![256, 16384]⟩
abbrev S1024x4096 : Shape := ⟨2, ![1024, 4096]⟩
abbrev S1024x8 : Shape := ⟨2, ![1024, 8]⟩
abbrev S6 : Shape := ⟨1, ![6]⟩
abbrev S3 : Shape := ⟨1, ![3]⟩
abbrev S256x4096 : Shape := ⟨2, ![256, 4096]⟩
abbrev S_ : Shape := ⟨0, ![]⟩
abbrev S1 : Shape := ⟨1, ![1]⟩
abbrev S64x4096 : Shape := ⟨2, ![64, 4096]⟩
abbrev S256 : Shape := ⟨1, ![256]⟩
abbrev S256x1 : Shape := ⟨2, ![256, 1]⟩
abbrev S256x8 : Shape := ⟨2, ![256, 8]⟩
abbrev S128x4096 : Shape := ⟨2, ![128, 4096]⟩
abbrev S128x1 : Shape := ⟨2, ![128, 1]⟩
abbrev S64x1 : Shape := ⟨2, ![64, 1]⟩

abbrev nBuf : Space → Nat
  | .hbm => 3
  | .vmem => 5
  | .smem => 0
  | _ => 0

abbrev bufTy : (tb : Table) → Fin (tcTables nBuf tb) → BufTy
  | .hbm, ⟨0, _⟩ => ⟨S256x512, .bf16⟩
  | .hbm, ⟨1, _⟩ => ⟨S512x4096, .bf16⟩
  | .hbm, ⟨2, _⟩ => ⟨S256x16384, .f32⟩
  | .local _ .vmem, ⟨0, _⟩ => ⟨S256x512, .bf16⟩
  | .local _ .vmem, ⟨1, _⟩ => ⟨S512x4096, .bf16⟩
  | .local _ .vmem, ⟨2, _⟩ => ⟨S256x16384, .f32⟩
  | .local _ .vmem, ⟨3, _⟩ => ⟨S1024x4096, .bf16⟩
  | .local _ .vmem, ⟨4, _⟩ => ⟨S1024x8, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v31 : BitVec 32 := Scalar.muli v2 c256_i32
  let v32 : Index := Scalar.indexCast v31
  let c0_16 : Index := 0#32
  ![v32.toNat, 0]
def k0_dev1 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v37 : BitVec 32 := Scalar.addi v2 c1_i32_17
  let c4_i32_18 : BitVec 32 := 4#32
  let c0_i32_19 : BitVec 32 := 0#32
  let v38 : BitVec 1 := Scalar.cmpi .eq c4_i32_18 c0_i32_19
  let c1_i32_20 : BitVec 32 := 1#32
  let v39 : BitVec 32 := Scalar.select v38 c1_i32_20 c4_i32_18
  let v40 : BitVec 32 := Scalar.remsi v37 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let c1_i32_25 : BitVec 32 := 1#32
  let v48 : BitVec 32 := Scalar.muli v47 c1_i32_25
  let v49 : BitVec 32 := Scalar.addi c0_i32_26 v48
  v49.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v50 : BitVec 32 := Scalar.addi v2 c2_i32
  let c4_i32_27 : BitVec 32 := 4#32
  let c0_i32_28 : BitVec 32 := 0#32
  let v51 : BitVec 1 := Scalar.cmpi .eq c4_i32_27 c0_i32_28
  let c1_i32_29 : BitVec 32 := 1#32
  let v52 : BitVec 32 := Scalar.select v51 c1_i32_29 c4_i32_27
  let v53 : BitVec 32 := Scalar.remsi v50 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c1_i32_34 : BitVec 32 := 1#32
  let v61 : BitVec 32 := Scalar.muli v60 c1_i32_34
  let v62 : BitVec 32 := Scalar.addi c0_i32_35 v61
  v62.toNat
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v63 : BitVec 32 := Scalar.addi v2 c3_i32
  let c4_i32_36 : BitVec 32 := 4#32
  let c0_i32_37 : BitVec 32 := 0#32
  let v64 : BitVec 1 := Scalar.cmpi .eq c4_i32_36 c0_i32_37
  let c1_i32_38 : BitVec 32 := 1#32
  let v65 : BitVec 32 := Scalar.select v64 c1_i32_38 c4_i32_36
  let v66 : BitVec 32 := Scalar.remsi v63 v65
  let c0_i32_40 : BitVec 32 := 0#32
  let v68 : BitVec 1 := Scalar.cmpi .slt v66 c0_i32_40
  let c0_i32_41 : BitVec 32 := 0#32
  let v69 : BitVec 1 := Scalar.cmpi .slt v65 c0_i32_41
  let v70 : BitVec 1 := Scalar.xori v68 v69
  let c0_i32_39 : BitVec 32 := 0#32
  let v67 : BitVec 1 := Scalar.cmpi .ne v66 c0_i32_39
  let v71 : BitVec 1 := Scalar.andi v70 v67
  let v72 : BitVec 32 := Scalar.addi v66 v65
  let v73 : BitVec 32 := Scalar.select v71 v72 v66
  let c1_i32_43 : BitVec 32 := 1#32
  let v74 : BitVec 32 := Scalar.muli v73 c1_i32_43
  let v75 : BitVec 32 := Scalar.addi c0_i32_44 v74
  v75.toNat
def k0_off2 (d0 : Dev nD) (c0_i32_46 : BitVec 32) (c0_i32_63 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v76 : BitVec 32 := Scalar.subi v2 c0_i32_46
  let c4_i32_47 : BitVec 32 := 4#32
  let c0_i32_48 : BitVec 32 := 0#32
  let v77 : BitVec 1 := Scalar.cmpi .eq c4_i32_47 c0_i32_48
  let c1_i32_49 : BitVec 32 := 1#32
  let v78 : BitVec 32 := Scalar.select v77 c1_i32_49 c4_i32_47
  let v79 : BitVec 32 := Scalar.remsi v76 v78
  let c0_i32_51 : BitVec 32 := 0#32
  let v81 : BitVec 1 := Scalar.cmpi .slt v79 c0_i32_51
  let c0_i32_52 : BitVec 32 := 0#32
  let v82 : BitVec 1 := Scalar.cmpi .slt v78 c0_i32_52
  let v83 : BitVec 1 := Scalar.xori v81 v82
  let c0_i32_50 : BitVec 32 := 0#32
  let v80 : BitVec 1 := Scalar.cmpi .ne v79 c0_i32_50
  let v84 : BitVec 1 := Scalar.andi v83 v80
  let v85 : BitVec 32 := Scalar.addi v79 v78
  let v86 : BitVec 32 := Scalar.select v84 v85 v79
  let c256_i32_62 : BitVec 32 := 256#32
  let v100 : BitVec 32 := Scalar.muli v86 c256_i32_62
  let v101 : BitVec 32 := Scalar.addi v100 c0_i32_63
  let c0_i32_73 : BitVec 32 := 0#32
  ![v101.toNat, 0]
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_71 : BitVec 32 := 1#32
  let v108 : BitVec 32 := Scalar.muli v24 c1_i32_71
  let v109 : BitVec 32 := Scalar.addi c0_i32_72 v108
  v109.toNat
def k0_off3 (d0 : Dev nD) (c0_i32_53 : BitVec 32) (c0_i32_68 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v87 : BitVec 32 := Scalar.addi v2 c0_i32_53
  let c4_i32_54 : BitVec 32 := 4#32
  let c0_i32_55 : BitVec 32 := 0#32
  let v88 : BitVec 1 := Scalar.cmpi .eq c4_i32_54 c0_i32_55
  let c1_i32_56 : BitVec 32 := 1#32
  let v89 : BitVec 32 := Scalar.select v88 c1_i32_56 c4_i32_54
  let v90 : BitVec 32 := Scalar.remsi v87 v89
  let c0_i32_58 : BitVec 32 := 0#32
  let v92 : BitVec 1 := Scalar.cmpi .slt v90 c0_i32_58
  let c0_i32_59 : BitVec 32 := 0#32
  let v93 : BitVec 1 := Scalar.cmpi .slt v89 c0_i32_59
  let v94 : BitVec 1 := Scalar.xori v92 v93
  let c0_i32_57 : BitVec 32 := 0#32
  let v91 : BitVec 1 := Scalar.cmpi .ne v90 c0_i32_57
  let v95 : BitVec 1 := Scalar.andi v94 v91
  let v96 : BitVec 32 := Scalar.addi v90 v89
  let v97 : BitVec 32 := Scalar.select v95 v96 v90
  let c256_i32_66 : BitVec 32 := 256#32
  let v105 : BitVec 32 := Scalar.muli v97 c256_i32_66
  let c128_i32_67 : BitVec 32 := 128#32
  let v106 : BitVec 32 := Scalar.addi v105 c128_i32_67
  let v107 : BitVec 32 := Scalar.addi v106 c0_i32_68
  let c0_i32_79 : BitVec 32 := 0#32
  ![v107.toNat, 0]
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_77 : BitVec 32 := 1#32
  let v116 : BitVec 32 := Scalar.muli v13 c1_i32_77
  let v117 : BitVec 32 := Scalar.addi c0_i32_78 v116
  v117.toNat
def k0_dev6 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_92 : BitVec 32 := 1#32
  let v134 : BitVec 32 := Scalar.muli v24 c1_i32_92
  let v135 : BitVec 32 := Scalar.addi c0_i32_93 v134
  v135.toNat
def k0_dev7 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_98 : BitVec 32 := 1#32
  let v142 : BitVec 32 := Scalar.muli v13 c1_i32_98
  let v143 : BitVec 32 := Scalar.addi c0_i32_99 v142
  v143.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_104 : BitVec 32 := 256#32
  let v157 : BitVec 32 := Scalar.muli v2 c256_i32_104
  let v158 : Index := Scalar.indexCast v157
  let c0_105 : Index := 0#32
  ![v158.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_106 : BitVec 32 := 256#32
  let v162 : BitVec 32 := Scalar.muli v2 c256_i32_106
  let v163 : Index := Scalar.indexCast v162
  let c1 : Index := 1#32
  ![v163.toNat, 1]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_108 : BitVec 32 := 256#32
  let v168 : BitVec 32 := Scalar.muli v2 c256_i32_108
  let c0_i32_120 : BitVec 32 := 0#32
  ![v168.toNat, 0]
def k0_dev8 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_109 : BitVec 32 := 1#32
  let v169 : BitVec 32 := Scalar.addi v2 c1_i32_109
  let c4_i32_110 : BitVec 32 := 4#32
  let c0_i32_111 : BitVec 32 := 0#32
  let v170 : BitVec 1 := Scalar.cmpi .eq c4_i32_110 c0_i32_111
  let c1_i32_112 : BitVec 32 := 1#32
  let v171 : BitVec 32 := Scalar.select v170 c1_i32_112 c4_i32_110
  let v172 : BitVec 32 := Scalar.remsi v169 v171
  let c0_i32_114 : BitVec 32 := 0#32
  let v174 : BitVec 1 := Scalar.cmpi .slt v172 c0_i32_114
  let c0_i32_115 : BitVec 32 := 0#32
  let v175 : BitVec 1 := Scalar.cmpi .slt v171 c0_i32_115
  let v176 : BitVec 1 := Scalar.xori v174 v175
  let c0_i32_113 : BitVec 32 := 0#32
  let v173 : BitVec 1 := Scalar.cmpi .ne v172 c0_i32_113
  let v177 : BitVec 1 := Scalar.andi v176 v173
  let v178 : BitVec 32 := Scalar.addi v172 v171
  let v179 : BitVec 32 := Scalar.select v177 v178 v172
  let c1_i32_118 : BitVec 32 := 1#32
  let v180 : BitVec 32 := Scalar.muli v179 c1_i32_118
  let v181 : BitVec 32 := Scalar.addi c0_i32_119 v180
  v181.toNat
def k0_dev9 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_124 : BitVec 32 := 2#32
  let v190 : BitVec 32 := Scalar.addi v2 c2_i32_124
  let c4_i32_125 : BitVec 32 := 4#32
  let c0_i32_126 : BitVec 32 := 0#32
  let v191 : BitVec 1 := Scalar.cmpi .eq c4_i32_125 c0_i32_126
  let c1_i32_127 : BitVec 32 := 1#32
  let v192 : BitVec 32 := Scalar.select v191 c1_i32_127 c4_i32_125
  let v193 : BitVec 32 := Scalar.remsi v190 v192
  let c0_i32_129 : BitVec 32 := 0#32
  let v195 : BitVec 1 := Scalar.cmpi .slt v193 c0_i32_129
  let c0_i32_130 : BitVec 32 := 0#32
  let v196 : BitVec 1 := Scalar.cmpi .slt v192 c0_i32_130
  let v197 : BitVec 1 := Scalar.xori v195 v196
  let c0_i32_128 : BitVec 32 := 0#32
  let v194 : BitVec 1 := Scalar.cmpi .ne v193 c0_i32_128
  let v198 : BitVec 1 := Scalar.andi v197 v194
  let v199 : BitVec 32 := Scalar.addi v193 v192
  let v200 : BitVec 32 := Scalar.select v198 v199 v193
  let c1_i32_133 : BitVec 32 := 1#32
  let v201 : BitVec 32 := Scalar.muli v200 c1_i32_133
  let v202 : BitVec 32 := Scalar.addi c0_i32_134 v201
  v202.toNat
def k0_dev10 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_139 : BitVec 32 := 3#32
  let v211 : BitVec 32 := Scalar.addi v2 c3_i32_139
  let c4_i32_140 : BitVec 32 := 4#32
  let c0_i32_141 : BitVec 32 := 0#32
  let v212 : BitVec 1 := Scalar.cmpi .eq c4_i32_140 c0_i32_141
  let c1_i32_142 : BitVec 32 := 1#32
  let v213 : BitVec 32 := Scalar.select v212 c1_i32_142 c4_i32_140
  let v214 : BitVec 32 := Scalar.remsi v211 v213
  let c0_i32_144 : BitVec 32 := 0#32
  let v216 : BitVec 1 := Scalar.cmpi .slt v214 c0_i32_144
  let c0_i32_145 : BitVec 32 := 0#32
  let v217 : BitVec 1 := Scalar.cmpi .slt v213 c0_i32_145
  let v218 : BitVec 1 := Scalar.xori v216 v217
  let c0_i32_143 : BitVec 32 := 0#32
  let v215 : BitVec 1 := Scalar.cmpi .ne v214 c0_i32_143
  let v219 : BitVec 1 := Scalar.andi v218 v215
  let v220 : BitVec 32 := Scalar.addi v214 v213
  let v221 : BitVec 32 := Scalar.select v219 v220 v214
  let c1_i32_148 : BitVec 32 := 1#32
  let v222 : BitVec 32 := Scalar.muli v221 c1_i32_148
  let v223 : BitVec 32 := Scalar.addi c0_i32_149 v222
  v223.toNat
def k0_off7 (d0 : Dev nD) (c1_i32_152 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v230 : BitVec 32 := Scalar.subi v2 c1_i32_152
  let c4_i32_153 : BitVec 32 := 4#32
  let c0_i32_154 : BitVec 32 := 0#32
  let v231 : BitVec 1 := Scalar.cmpi .eq c4_i32_153 c0_i32_154
  let c1_i32_155 : BitVec 32 := 1#32
  let v232 : BitVec 32 := Scalar.select v231 c1_i32_155 c4_i32_153
  let v233 : BitVec 32 := Scalar.remsi v230 v232
  let c0_i32_157 : BitVec 32 := 0#32
  let v235 : BitVec 1 := Scalar.cmpi .slt v233 c0_i32_157
  let c0_i32_158 : BitVec 32 := 0#32
  let v236 : BitVec 1 := Scalar.cmpi .slt v232 c0_i32_158
  let v237 : BitVec 1 := Scalar.xori v235 v236
  let c0_i32_156 : BitVec 32 := 0#32
  let v234 : BitVec 1 := Scalar.cmpi .ne v233 c0_i32_156
  let v238 : BitVec 1 := Scalar.andi v237 v234
  let v239 : BitVec 32 := Scalar.addi v233 v232
  let v240 : BitVec 32 := Scalar.select v238 v239 v233
  let c256_i32_160 : BitVec 32 := 256#32
  let v242 : BitVec 32 := Scalar.muli v240 c256_i32_160
  let c0_i32_183 : BitVec 32 := 0#32
  ![v242.toNat, 0]
def k0_off8 (d0 : Dev nD) (c0_i32_46 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v76 : BitVec 32 := Scalar.subi v2 c0_i32_46
  let c4_i32_47 : BitVec 32 := 4#32
  let c0_i32_48 : BitVec 32 := 0#32
  let v77 : BitVec 1 := Scalar.cmpi .eq c4_i32_47 c0_i32_48
  let c1_i32_49 : BitVec 32 := 1#32
  let v78 : BitVec 32 := Scalar.select v77 c1_i32_49 c4_i32_47
  let v79 : BitVec 32 := Scalar.remsi v76 v78
  let c0_i32_51 : BitVec 32 := 0#32
  let v81 : BitVec 1 := Scalar.cmpi .slt v79 c0_i32_51
  let c0_i32_52 : BitVec 32 := 0#32
  let v82 : BitVec 1 := Scalar.cmpi .slt v78 c0_i32_52
  let v83 : BitVec 1 := Scalar.xori v81 v82
  let c0_i32_50 : BitVec 32 := 0#32
  let v80 : BitVec 1 := Scalar.cmpi .ne v79 c0_i32_50
  let v84 : BitVec 1 := Scalar.andi v83 v80
  let v85 : BitVec 32 := Scalar.addi v79 v78
  let v86 : BitVec 32 := Scalar.select v84 v85 v79
  let c256_i32_211 : BitVec 32 := 256#32
  let v317 : BitVec 32 := Scalar.muli v86 c256_i32_211
  let v318 : Index := Scalar.indexCast v317
  let c0_212 : Index := 0#32
  ![v318.toNat, 0]
def k0_off9 (d0 : Dev nD) (c0_i32_46 : BitVec 32) : Fin 2 → Nat :=
  let c0_213 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v76 : BitVec 32 := Scalar.subi v2 c0_i32_46
  let c4_i32_47 : BitVec 32 := 4#32
  let c0_i32_48 : BitVec 32 := 0#32
  let v77 : BitVec 1 := Scalar.cmpi .eq c4_i32_47 c0_i32_48
  let c1_i32_49 : BitVec 32 := 1#32
  let v78 : BitVec 32 := Scalar.select v77 c1_i32_49 c4_i32_47
  let v79 : BitVec 32 := Scalar.remsi v76 v78
  let c0_i32_51 : BitVec 32 := 0#32
  let v81 : BitVec 1 := Scalar.cmpi .slt v79 c0_i32_51
  let c0_i32_52 : BitVec 32 := 0#32
  let v82 : BitVec 1 := Scalar.cmpi .slt v78 c0_i32_52
  let v83 : BitVec 1 := Scalar.xori v81 v82
  let c0_i32_50 : BitVec 32 := 0#32
  let v80 : BitVec 1 := Scalar.cmpi .ne v79 c0_i32_50
  let v84 : BitVec 1 := Scalar.andi v83 v80
  let v85 : BitVec 32 := Scalar.addi v79 v78
  let v86 : BitVec 32 := Scalar.select v84 v85 v79
  let c4096_i32 : BitVec 32 := 4096#32
  let v325 : BitVec 32 := Scalar.muli v86 c4096_i32
  let v326 : Index := Scalar.indexCast v325
  ![0, v326.toNat]
def k0_off10 (d0 : Dev nD) (c0_i32_53 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v87 : BitVec 32 := Scalar.addi v2 c0_i32_53
  let c4_i32_54 : BitVec 32 := 4#32
  let c0_i32_55 : BitVec 32 := 0#32
  let v88 : BitVec 1 := Scalar.cmpi .eq c4_i32_54 c0_i32_55
  let c1_i32_56 : BitVec 32 := 1#32
  let v89 : BitVec 32 := Scalar.select v88 c1_i32_56 c4_i32_54
  let v90 : BitVec 32 := Scalar.remsi v87 v89
  let c0_i32_58 : BitVec 32 := 0#32
  let v92 : BitVec 1 := Scalar.cmpi .slt v90 c0_i32_58
  let c0_i32_59 : BitVec 32 := 0#32
  let v93 : BitVec 1 := Scalar.cmpi .slt v89 c0_i32_59
  let v94 : BitVec 1 := Scalar.xori v92 v93
  let c0_i32_57 : BitVec 32 := 0#32
  let v91 : BitVec 1 := Scalar.cmpi .ne v90 c0_i32_57
  let v95 : BitVec 1 := Scalar.andi v94 v91
  let v96 : BitVec 32 := Scalar.addi v90 v89
  let v97 : BitVec 32 := Scalar.select v95 v96 v90
  let c256_i32_214 : BitVec 32 := 256#32
  let v328 : BitVec 32 := Scalar.muli v97 c256_i32_214
  let c128_i32_215 : BitVec 32 := 128#32
  let v329 : BitVec 32 := Scalar.addi v328 c128_i32_215
  let v330 : Index := Scalar.indexCast v329
  let c0_216 : Index := 0#32
  ![v330.toNat, 0]
def k0_off11 (d0 : Dev nD) (c0_i32_53 : BitVec 32) : Fin 2 → Nat :=
  let c128 : Index := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v87 : BitVec 32 := Scalar.addi v2 c0_i32_53
  let c4_i32_54 : BitVec 32 := 4#32
  let c0_i32_55 : BitVec 32 := 0#32
  let v88 : BitVec 1 := Scalar.cmpi .eq c4_i32_54 c0_i32_55
  let c1_i32_56 : BitVec 32 := 1#32
  let v89 : BitVec 32 := Scalar.select v88 c1_i32_56 c4_i32_54
  let v90 : BitVec 32 := Scalar.remsi v87 v89
  let c0_i32_58 : BitVec 32 := 0#32
  let v92 : BitVec 1 := Scalar.cmpi .slt v90 c0_i32_58
  let c0_i32_59 : BitVec 32 := 0#32
  let v93 : BitVec 1 := Scalar.cmpi .slt v89 c0_i32_59
  let v94 : BitVec 1 := Scalar.xori v92 v93
  let c0_i32_57 : BitVec 32 := 0#32
  let v91 : BitVec 1 := Scalar.cmpi .ne v90 c0_i32_57
  let v95 : BitVec 1 := Scalar.andi v94 v91
  let v96 : BitVec 32 := Scalar.addi v90 v89
  let v97 : BitVec 32 := Scalar.select v95 v96 v90
  let c4096_i32_217 : BitVec 32 := 4096#32
  let v337 : BitVec 32 := Scalar.muli v97 c4096_i32_217
  let v338 : Index := Scalar.indexCast v337
  ![128, v338.toNat]
def k0_dev11 (d0 : Dev nD) : Nat :=
  let c0_i32_257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_256 : BitVec 32 := 1#32
  let v384 : BitVec 32 := Scalar.muli v24 c1_i32_256
  let v385 : BitVec 32 := Scalar.addi c0_i32_257 v384
  v385.toNat
def k0_dev12 (d0 : Dev nD) : Nat :=
  let c0_i32_263 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_262 : BitVec 32 := 1#32
  let v392 : BitVec 32 := Scalar.muli v13 c1_i32_262
  let v393 : BitVec 32 := Scalar.addi c0_i32_263 v392
  v393.toNat
def k0_dev13 (d0 : Dev nD) : Nat :=
  let c0_i32_291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_290 : BitVec 32 := 1#32
  let v422 : BitVec 32 := Scalar.muli v24 c1_i32_290
  let v423 : BitVec 32 := Scalar.addi c0_i32_291 v422
  v423.toNat
def k0_dev14 (d0 : Dev nD) : Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_296 : BitVec 32 := 1#32
  let v430 : BitVec 32 := Scalar.muli v13 c1_i32_296
  let v431 : BitVec 32 := Scalar.addi c0_i32_297 v430
  v431.toNat
def k0_dev15 (d0 : Dev nD) : Nat :=
  let c0_i32_348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_347 : BitVec 32 := 1#32
  let v505 : BitVec 32 := Scalar.muli v24 c1_i32_347
  let v506 : BitVec 32 := Scalar.addi c0_i32_348 v505
  v506.toNat
def k0_dev16 (d0 : Dev nD) : Nat :=
  let c0_i32_354 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_353 : BitVec 32 := 1#32
  let v513 : BitVec 32 := Scalar.muli v13 c1_i32_353
  let v514 : BitVec 32 := Scalar.addi c0_i32_354 v513
  v514.toNat
def k0_dev17 (d0 : Dev nD) : Nat :=
  let c0_i32_381 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_380 : BitVec 32 := 1#32
  let v543 : BitVec 32 := Scalar.muli v24 c1_i32_380
  let v544 : BitVec 32 := Scalar.addi c0_i32_381 v543
  v544.toNat
def k0_dev18 (d0 : Dev nD) : Nat :=
  let c0_i32_387 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_386 : BitVec 32 := 1#32
  let v551 : BitVec 32 := Scalar.muli v13 c1_i32_386
  let v552 : BitVec 32 := Scalar.addi c0_i32_387 v551
  v552.toNat
def k0_off12 (d0 : Dev nD) (c0_i32_420 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_399 : BitVec 32 := 1#32
  let v582 : BitVec 32 := Scalar.addi v2 c1_i32_399
  let c4_i32_400 : BitVec 32 := 4#32
  let c0_i32_401 : BitVec 32 := 0#32
  let v583 : BitVec 1 := Scalar.cmpi .eq c4_i32_400 c0_i32_401
  let c1_i32_402 : BitVec 32 := 1#32
  let v584 : BitVec 32 := Scalar.select v583 c1_i32_402 c4_i32_400
  let v585 : BitVec 32 := Scalar.remsi v582 v584
  let c0_i32_404 : BitVec 32 := 0#32
  let v587 : BitVec 1 := Scalar.cmpi .slt v585 c0_i32_404
  let c0_i32_405 : BitVec 32 := 0#32
  let v588 : BitVec 1 := Scalar.cmpi .slt v584 c0_i32_405
  let v589 : BitVec 1 := Scalar.xori v587 v588
  let c0_i32_403 : BitVec 32 := 0#32
  let v586 : BitVec 1 := Scalar.cmpi .ne v585 c0_i32_403
  let v590 : BitVec 1 := Scalar.andi v589 v586
  let v591 : BitVec 32 := Scalar.addi v585 v584
  let v592 : BitVec 32 := Scalar.select v590 v591 v585
  let c256_i32_419 : BitVec 32 := 256#32
  let v610 : BitVec 32 := Scalar.muli v592 c256_i32_419
  let v611 : BitVec 32 := Scalar.addi v610 c0_i32_420
  let v612 : Index := Scalar.indexCast v611
  let c0_421 : Index := 0#32
  ![v612.toNat, 0]
def k0_off13 (d0 : Dev nD) : Fin 2 → Nat :=
  let c0_423 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_399 : BitVec 32 := 1#32
  let v582 : BitVec 32 := Scalar.addi v2 c1_i32_399
  let c4_i32_400 : BitVec 32 := 4#32
  let c0_i32_401 : BitVec 32 := 0#32
  let v583 : BitVec 1 := Scalar.cmpi .eq c4_i32_400 c0_i32_401
  let c1_i32_402 : BitVec 32 := 1#32
  let v584 : BitVec 32 := Scalar.select v583 c1_i32_402 c4_i32_400
  let v585 : BitVec 32 := Scalar.remsi v582 v584
  let c0_i32_404 : BitVec 32 := 0#32
  let v587 : BitVec 1 := Scalar.cmpi .slt v585 c0_i32_404
  let c0_i32_405 : BitVec 32 := 0#32
  let v588 : BitVec 1 := Scalar.cmpi .slt v584 c0_i32_405
  let v589 : BitVec 1 := Scalar.xori v587 v588
  let c0_i32_403 : BitVec 32 := 0#32
  let v586 : BitVec 1 := Scalar.cmpi .ne v585 c0_i32_403
  let v590 : BitVec 1 := Scalar.andi v589 v586
  let v591 : BitVec 32 := Scalar.addi v585 v584
  let v592 : BitVec 32 := Scalar.select v590 v591 v585
  let c4096_i32_422 : BitVec 32 := 4096#32
  let v619 : BitVec 32 := Scalar.muli v592 c4096_i32_422
  let v620 : Index := Scalar.indexCast v619
  ![0, v620.toNat]
def k0_off14 (d0 : Dev nD) (c0_i32_432 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_406 : BitVec 32 := 1#32
  let v593 : BitVec 32 := Scalar.subi v2 c1_i32_406
  let c4_i32_407 : BitVec 32 := 4#32
  let c0_i32_408 : BitVec 32 := 0#32
  let v594 : BitVec 1 := Scalar.cmpi .eq c4_i32_407 c0_i32_408
  let c1_i32_409 : BitVec 32 := 1#32
  let v595 : BitVec 32 := Scalar.select v594 c1_i32_409 c4_i32_407
  let v596 : BitVec 32 := Scalar.remsi v593 v595
  let c0_i32_411 : BitVec 32 := 0#32
  let v598 : BitVec 1 := Scalar.cmpi .slt v596 c0_i32_411
  let c0_i32_412 : BitVec 32 := 0#32
  let v599 : BitVec 1 := Scalar.cmpi .slt v595 c0_i32_412
  let v600 : BitVec 1 := Scalar.xori v598 v599
  let c0_i32_410 : BitVec 32 := 0#32
  let v597 : BitVec 1 := Scalar.cmpi .ne v596 c0_i32_410
  let v601 : BitVec 1 := Scalar.andi v600 v597
  let v602 : BitVec 32 := Scalar.addi v596 v595
  let v603 : BitVec 32 := Scalar.select v601 v602 v596
  let c256_i32_430 : BitVec 32 := 256#32
  let v628 : BitVec 32 := Scalar.muli v603 c256_i32_430
  let c128_i32_431 : BitVec 32 := 128#32
  let v629 : BitVec 32 := Scalar.addi v628 c128_i32_431
  let v630 : BitVec 32 := Scalar.addi v629 c0_i32_432
  let v631 : Index := Scalar.indexCast v630
  let c0_433 : Index := 0#32
  ![v631.toNat, 0]
def k0_off15 (d0 : Dev nD) : Fin 2 → Nat :=
  let c128_435 : Index := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_406 : BitVec 32 := 1#32
  let v593 : BitVec 32 := Scalar.subi v2 c1_i32_406
  let c4_i32_407 : BitVec 32 := 4#32
  let c0_i32_408 : BitVec 32 := 0#32
  let v594 : BitVec 1 := Scalar.cmpi .eq c4_i32_407 c0_i32_408
  let c1_i32_409 : BitVec 32 := 1#32
  let v595 : BitVec 32 := Scalar.select v594 c1_i32_409 c4_i32_407
  let v596 : BitVec 32 := Scalar.remsi v593 v595
  let c0_i32_411 : BitVec 32 := 0#32
  let v598 : BitVec 1 := Scalar.cmpi .slt v596 c0_i32_411
  let c0_i32_412 : BitVec 32 := 0#32
  let v599 : BitVec 1 := Scalar.cmpi .slt v595 c0_i32_412
  let v600 : BitVec 1 := Scalar.xori v598 v599
  let c0_i32_410 : BitVec 32 := 0#32
  let v597 : BitVec 1 := Scalar.cmpi .ne v596 c0_i32_410
  let v601 : BitVec 1 := Scalar.andi v600 v597
  let v602 : BitVec 32 := Scalar.addi v596 v595
  let v603 : BitVec 32 := Scalar.select v601 v602 v596
  let c4096_i32_434 : BitVec 32 := 4096#32
  let v638 : BitVec 32 := Scalar.muli v603 c4096_i32_434
  let v639 : Index := Scalar.indexCast v638
  ![128, v639.toNat]
def k0_off16 (d0 : Dev nD) : Fin 2 → Nat :=
  let c64 : Index := 64#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_399 : BitVec 32 := 1#32
  let v582 : BitVec 32 := Scalar.addi v2 c1_i32_399
  let c4_i32_400 : BitVec 32 := 4#32
  let c0_i32_401 : BitVec 32 := 0#32
  let v583 : BitVec 1 := Scalar.cmpi .eq c4_i32_400 c0_i32_401
  let c1_i32_402 : BitVec 32 := 1#32
  let v584 : BitVec 32 := Scalar.select v583 c1_i32_402 c4_i32_400
  let v585 : BitVec 32 := Scalar.remsi v582 v584
  let c0_i32_404 : BitVec 32 := 0#32
  let v587 : BitVec 1 := Scalar.cmpi .slt v585 c0_i32_404
  let c0_i32_405 : BitVec 32 := 0#32
  let v588 : BitVec 1 := Scalar.cmpi .slt v584 c0_i32_405
  let v589 : BitVec 1 := Scalar.xori v587 v588
  let c0_i32_403 : BitVec 32 := 0#32
  let v586 : BitVec 1 := Scalar.cmpi .ne v585 c0_i32_403
  let v590 : BitVec 1 := Scalar.andi v589 v586
  let v591 : BitVec 32 := Scalar.addi v585 v584
  let v592 : BitVec 32 := Scalar.select v590 v591 v585
  let c4096_i32_445 : BitVec 32 := 4096#32
  let v656 : BitVec 32 := Scalar.muli v592 c4096_i32_445
  let v657 : Index := Scalar.indexCast v656
  ![64, v657.toNat]
def k0_off17 (d0 : Dev nD) : Fin 2 → Nat :=
  let c192 : Index := 192#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_406 : BitVec 32 := 1#32
  let v593 : BitVec 32 := Scalar.subi v2 c1_i32_406
  let c4_i32_407 : BitVec 32 := 4#32
  let c0_i32_408 : BitVec 32 := 0#32
  let v594 : BitVec 1 := Scalar.cmpi .eq c4_i32_407 c0_i32_408
  let c1_i32_409 : BitVec 32 := 1#32
  let v595 : BitVec 32 := Scalar.select v594 c1_i32_409 c4_i32_407
  let v596 : BitVec 32 := Scalar.remsi v593 v595
  let c0_i32_411 : BitVec 32 := 0#32
  let v598 : BitVec 1 := Scalar.cmpi .slt v596 c0_i32_411
  let c0_i32_412 : BitVec 32 := 0#32
  let v599 : BitVec 1 := Scalar.cmpi .slt v595 c0_i32_412
  let v600 : BitVec 1 := Scalar.xori v598 v599
  let c0_i32_410 : BitVec 32 := 0#32
  let v597 : BitVec 1 := Scalar.cmpi .ne v596 c0_i32_410
  let v601 : BitVec 1 := Scalar.andi v600 v597
  let v602 : BitVec 32 := Scalar.addi v596 v595
  let v603 : BitVec 32 := Scalar.select v601 v602 v596
  let c4096_i32_456 : BitVec 32 := 4096#32
  let v675 : BitVec 32 := Scalar.muli v603 c4096_i32_456
  let v676 : Index := Scalar.indexCast v675
  ![192, v676.toNat]
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x16384 : Shape := ⟨2, ![512, 16384]⟩
abbrev S256x16384 : Shape := ⟨2, ![256, 16384]⟩
abbrev S_ : Shape := ⟨0, ![]⟩
abbrev S256 : Shape := ⟨1, ![256]⟩
abbrev S256x1 : Shape := ⟨2, ![256, 1]⟩

abbrev nBuf : Space → Nat
  | .hbm => 16
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S512x16384, .bf16⟩
  | .hbm, ⟨2, _⟩ => ⟨S256x512, .f32⟩
  | .hbm, ⟨3, _⟩ => ⟨S512x16384, .f32⟩
  | .hbm, ⟨4, _⟩ => ⟨S256x16384, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x16384, .f32⟩
  | .hbm, ⟨9, _⟩ => ⟨S256x16384, .f32⟩
  | .hbm, ⟨10, _⟩ => ⟨S256x16384, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S256x16384, .f32⟩
  | .hbm, ⟨15, _⟩ => ⟨S256x16384, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.RingIdeal.lean ====
/- The cross-device protocol of the kernel: the four devices of the ring, the semaphores each of them owns, what each copy
   carries, the schedule of what a semaphore's waiter receives, and the order in which a device owes its signals. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdx

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the ring's, whose duties are three -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The device `k` steps to the right of `c`. -/
def sh (c : Dev nD) (k : ℕ) : Dev nD := ⟨(c.val + k) % 4, Nat.mod_lt _ (by decide)⟩

theorem sh_sh (c : Dev nD) (a b : ℕ) : sh (sh c a) b = sh c (a + b) := Fin.ext (by simp only [sh]; omega)
theorem sh_zero (c : Dev nD) : sh c 0 = c := by revert c; decide
theorem sh_four (c : Dev nD) : sh c 4 = c := by revert c; decide
theorem sh_add_four (c : Dev nD) (k : ℕ) : sh c (k + 4) = sh c k := Fin.ext (by simp only [sh]; omega)
theorem sh_val (c : Dev nD) (k : ℕ) : (sh c k).val = (c.val + k) % 4 := rfl

/-- The ring's rotation by `k` as a permutation of the devices. -/
def rot (k : ℕ) (hk : k ≤ 4) : Dev nD ≃ Dev nD where
  toFun c := sh c k
  invFun c := sh c (4 - k)
  left_inv c := by show sh (sh c k) (4 - k) = c; rw [sh_sh, show k + (4 - k) = 4 by omega, sh_four]
  right_inv c := by show sh (sh c (4 - k)) k = c; rw [sh_sh, show (4 - k) + k = 4 by omega, sh_four]

/-! ## The memrefs, the semaphores and their cells -/

abbrev xM : Memref sig .tc .vmem S256x512 .bf16 := Memref.whole cc0_stg0_0
abbrev wM : Memref sig .tc .vmem S512x4096 .bf16 := Memref.whole cc0_stg1_0
abbrev oM : Memref sig .tc .vmem S256x16384 .f32 := Memref.whole cc0_stg2_0
abbrev gM : Memref sig .tc .vmem S1024x4096 .bf16 := Memref.whole cc0_scratch0
abbrev sM : Memref sig .tc .vmem S1024x8 .f32 := Memref.whole cc0_scratch1

/-- The runtime's barrier semaphore. -/
abbrev barS : Sem sig := (SemArray.scalar (sig.barrier 0 rfl) : Sems sig S_).sem
/-- The kernel's own DMA semaphores, in the order of its scratch operands: 0–5 the sends to the right, 6–11 their receives,
    12–17 the sends to the left, 18–23 their receives, 24–26 the sends of the statistics, 27–29 their receives. -/
abbrev dsem (j : ℕ) (hj : j < 30 := by decide) : DmaSem sig := (⟨j + 3, by omega⟩ : Fin 33)

abbrev barCell (c : Dev nD) : GSem nD τ sig := ((c : Thread nD τ), .reg barS)
abbrev dcell (c : Dev nD) (j : ℕ) (hj : j < 30 := by decide) : GSem nD τ sig := ((c : Thread nD τ), .dma (dsem j hj))

abbrev osem : Fin 30 → SemLoc sig := fun j => .dma (dsem j.val j.isLt)
/-- All 31 of the ring's: the barrier, then the kernel's own. -/
abbrev csem : Fin 31 → SemLoc sig := fun k => if h : k.val = 0 then .reg barS else .dma (dsem (k.val - 1) (by omega))
abbrev kcell (ck : Dev nD × Fin 31) : GSem nD τ sig := ((ck.1 : Thread nD τ), csem ck.2)

theorem kcell_zero (c : Dev nD) : kcell (c, 0) = barCell c := rfl
theorem kcell_succ (c : Dev nD) (j : ℕ) (hj : j < 30) : kcell (c, ⟨j + 1, by omega⟩) = dcell c j hj := rfl

/-- The credit of a copy of 64 rows of logits, and of one of 256 rows of statistics. -/
abbrev Nd : ℕ := 16384
abbrev Ns : ℕ := 4096

theorem credit_g (off : Fin 2 → ℕ) (inb) : (gM.slice (Rect.unit (s := S1024x4096) off S64x4096.size inb) (fun _ => rfl)).view.dmaCredit = Nd := by
  show RefSig.tileCredit ⟨2, ![64, 4096]⟩ .bf16 = Nd
  decide +kernel
theorem credit_s (off : Fin 2 → ℕ) (inb) : (sM.slice (Rect.unit (s := S1024x8) off S256x8.size inb) (fun _ => rfl)).view.dmaCredit = Ns := by
  show RefSig.tileCredit ⟨2, ![256, 8]⟩ .f32 = Ns
  decide +kernel

/-! ## Contents -/

/-- Device `c`'s block of `x` and of `W` as the pipeline stages them. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- Device `c`'s logits, wide; -/
def lg (c : Dev nD) : FVec F S256x4096 .f32 := k0_pay1 (xstg m ρ c) (wstg m ρ c)
/-- and rounded to the narrow format. -/
def lgb (c : Dev nD) : FVec F S256x4096 .bf16 := k0_pay2 (xstg m ρ c) (wstg m ρ c)

/-- The device whose block row `r` of a gathered array is. -/
def blkOf (r : Fin 1024) : Dev nD := (⟨r.val / 256, by omega⟩ : Fin 4)
def inBlk (r : Fin 1024) : Fin 256 := ⟨r.val % 256, by omega⟩

/-- The gathered logits: row `r` is row `r % 256` of device `r / 256`'s, the same on every device. -/
def Gfin : FVec F S1024x4096 .bf16 := fun i => lgb m ρ (blkOf (i 0)) (ix2 (inBlk (i 0)) (i 1))
/-- The gathered statistics: column 0 the row's maximum on the row's device, column 1 its sum of exponentials. (The other
    columns are never read.) -/
def Sfin : FVec F S1024x8 .f32 := fun i =>
  if (i 1).val = 0 then k0_pay4 (lg m ρ (blkOf (i 0))) (ix2 (inBlk (i 0)) 0) else k0_pay5 (lg m ρ (blkOf (i 0))) (ix2 (inBlk (i 0)) 0)

/-- The rows `lo … lo + n - 1` of the gathered logits, and of the gathered statistics. -/
def grows (lo n : ℕ) : Finset S1024x4096.Idx := Finset.univ.filter fun i => lo ≤ (i 0).val ∧ (i 0).val < lo + n
def srows (lo n : ℕ) : Finset S1024x8.Idx := Finset.univ.filter fun i => lo ≤ (i 0).val ∧ (i 0).val < lo + n

theorem mem_grows {lo n : ℕ} {i : S1024x4096.Idx} : i ∈ grows lo n ↔ lo ≤ (i 0).val ∧ (i 0).val < lo + n := by simp [grows]
theorem mem_srows {lo n : ℕ} {i : S1024x8.Idx} : i ∈ srows lo n ↔ lo ≤ (i 0).val ∧ (i 0).val < lo + n := by simp [srows]

abbrev gloc (c : Dev nD) : Loc nD τ sig := (c : Thread nD τ).loc cc0_scratch0
abbrev sloc (c : Dev nD) : Loc nD τ sig := (c : Thread nD τ).loc cc0_scratch1

/-- Quarter `q` of block `b` of device `c`'s gathered logits, holding what it will hold at the end; -/
def gPts (c b : Dev nD) (q : ℕ) (s : PosShare TreeShare) : sProp 𝕄 := gloc c ↦[grows (256 * b.val + 64 * q) 64]{s} Gfin m ρ
/-- and holding anything. -/
def jPts (c b : Dev nD) (q : ℕ) : sProp 𝕄 := iprop(∃ f : Buf (Elt F) (gloc c), gloc c ↦[grows (256 * b.val + 64 * q) 64]{fullShare} f)
/-- Block `b` of device `c`'s gathered statistics at contents `f`. -/
def sPts (c b : Dev nD) (s : PosShare TreeShare) (f : Buf (Elt F) (sloc c)) : sProp 𝕄 := sloc c ↦[srows (256 * b.val) 256]{s} f
/-- The two columns in use of block `b` hold device `b`'s statistics. -/
def sOK (b : Dev nD) (f : FVec F S1024x8 .f32) : Prop := ∀ i : S1024x8.Idx, i ∈ srows (256 * b.val) 256 → (i 1).val < 2 → f i = Sfin m ρ i

/-- The share of its own statistics a device lends to its send number `d`; -/
def lent : ℕ → PosShare TreeShare
  | 0 => fullShare.left
  | 1 => fullShare.right.left
  | _ => fullShare.right.right.left
/-- and the one it keeps. -/
abbrev kept : PosShare TreeShare := fullShare.right.right.right

omit [FloatOps F] in
instance sPts_storable (c b : Dev nD) (s f) : BI.Storable (upEmb : UEmb _ 𝕄) (sPts (F := F) c b s f) := by unfold sPts; infer_instance
omit [FloatOps F] in
instance jPts_storable (c b : Dev nD) (q) : BI.Storable (upEmb : UEmb _ 𝕄) (jPts (F := F) c b q) := by unfold jPts; infer_instance
instance gPts_storable (c b : Dev nD) (q s) : BI.Storable (upEmb : UEmb _ 𝕄) (gPts (F := F) m ρ c b q s) := by unfold gPts; infer_instance

/-! ## The schedule -/

/-- What device `c`'s DMA semaphore `j` hands its waiter. -/
def pay (c : Dev nD) (j : ℕ) : sProp 𝕄 :=
  if j < 6 then gPts m ρ c (sh c (4 - j / 2)) (j % 2) fullShare.left
  else if j < 12 then gPts m ρ c (sh c (3 - (j - 6) / 2)) ((j - 6) % 2) fullShare
  else if j < 18 then gPts m ρ c (sh c ((j - 12) / 2)) (2 + (j - 12) % 2) fullShare.left
  else if j < 24 then gPts m ρ c (sh c (1 + (j - 18) / 2)) (2 + (j - 18) % 2) fullShare
  else if j < 27 then iprop(∃ f, sPts c c (lent (j - 24)) f)
  else iprop(∃ f, ⌜sOK m ρ (sh c (3 - (j - 27))) f⌝ ∗ sPts c (sh c (3 - (j - 27))) fullShare f)

/-- What the signal of the device at distance `e + 1` to the left hands `c` at `c`'s barrier: a block of its statistics for
    `c` to write, and, if it is a neighbour, the quarters of its gathered logits `c`'s copies will write. -/
def barPay (c : Dev nD) (e : Fin 3) : sProp 𝕄 :=
  match e with
  | 0 => iprop((∃ f, sPts (sh c 3) c fullShare f) ∗ jPts (sh c 3) c 2 ∗ jPts (sh c 3) c 3 ∗ jPts (sh c 3) (sh c 1) 2 ∗ jPts (sh c 3) (sh c 1) 3
      ∗ jPts (sh c 3) (sh c 2) 2 ∗ jPts (sh c 3) (sh c 2) 3)
  | 1 => iprop(∃ f, sPts (sh c 2) c fullShare f)
  | 2 => iprop((∃ f, sPts (sh c 1) c fullShare f) ∗ jPts (sh c 1) c 0 ∗ jPts (sh c 1) c 1 ∗ jPts (sh c 1) (sh c 3) 0 ∗ jPts (sh c 1) (sh c 3) 1
      ∗ jPts (sh c 1) (sh c 2) 0 ∗ jPts (sh c 1) (sh c 2) 1)

/-- The number of a semaphore among the kernel's own. -/
def amt (j : ℕ) : ℕ := if j < 24 then Nd else Ns
theorem amt_pos (j : ℕ) : 0 < amt j := by unfold amt; split <;> decide

/-- One round, round 0: a barrier cell has three duties of one unit each, a DMA cell the duty 0 of its copy's credit. -/
def rd : Rounds.Schedule (GSem nD τ sig) (Fin 3) 𝕄 where
  duties g r := if r = 0 ∧ g.1.2 = .tc then (match g.2 with | .reg _ => Finset.univ | .dma q => if 3 ≤ q.val then {0} else ∅) else ∅
  unitless _ := False
  amount g _ _ := match g.2 with | .reg _ => 1 | .dma q => amt (q.val - 3)
  payload g _ d := match g.2 with | .reg _ => barPay g.1.1 d | .dma q => pay m ρ g.1.1 (q.val - 3)
  amount_pos g _ _ _ := by
    rcases g with ⟨t, _ | q⟩
    · exact Nat.one_pos
    · exact amt_pos _

instance barPay_storable (c : Dev nD) (e : Fin 3) : BI.Storable (upEmb : UEmb _ 𝕄) (barPay (F := F) c e) := by
  fin_cases e <;> (unfold barPay; infer_instance)
instance pay_storable (c : Dev nD) (j : ℕ) : BI.Storable (upEmb : UEmb _ 𝕄) (pay (F := F) m ρ c j) := by
  unfold pay; (repeat' split) <;> infer_instance
instance rd_payload_storable (g : GSem nD τ sig) (r : ℕ) (d : Fin 3) : BI.Storable (upEmb : UEmb _ 𝕄) ((rd (F := F) m ρ).payload g r d) := by
  rcases g with ⟨t, _ | q⟩
  · exact barPay_storable t.1 d
  · exact pay_storable m ρ t.1 _

section Sched
variable (c : Dev nD) (j : ℕ) (hj : j < 30)

theorem duties_bar : (rd (F := F) m ρ).duties (barCell c) 0 = Finset.univ := by dsimp only [rd]; exact if_pos ⟨rfl, rfl⟩
theorem duties_dma : (rd (F := F) m ρ).duties (dcell c j hj) 0 = {0} := by
  dsimp only [rd]; rw [if_pos ⟨rfl, rfl⟩]; exact if_pos (by omega)
theorem duties_later (g : GSem nD τ sig) : ∀ r, 1 ≤ r → (rd (F := F) m ρ).duties g r = ∅ :=
  fun r hr => by dsimp only [rd]; exact if_neg fun h => by omega
theorem amount_bar (d : Fin 3) : (rd (F := F) m ρ).amount (barCell c) 0 d = 1 := rfl
theorem amount_dma (d : Fin 3) : (rd (F := F) m ρ).amount (dcell c j hj) 0 d = amt j := rfl
theorem payload_bar (d : Fin 3) : (rd (F := F) m ρ).payload (barCell c) 0 d = barPay c d := rfl
theorem payload_dma (d : Fin 3) : (rd (F := F) m ρ).payload (dcell c j hj) 0 d = pay m ρ c j := rfl
theorem expect_bar : (rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_dma : (rd (F := F) m ρ).expect (dcell c j hj) 0 = amt j := by
  unfold Schedule.expect Schedule.amountOf; rw [duties_dma, Finset.sum_singleton, amount_dma]

/-- The rest of a barrier cell's round, no duty taken: the three payloads; -/
theorem rest_bar : bigSep ((rd (F := F) m ρ).duties (barCell c) 0 \ ∅) (fun d => (rd (F := F) m ρ).payload (barCell c) 0 d)
    = iprop(barPay c 0 ∗ barPay c 1 ∗ barPay c 2) := by
  rw [Finset.sdiff_empty, duties_bar, bigSep_univ_eq_bigSepL [0, 1, 2] (by decide) (by decide)]; rfl
/-- of a DMA cell's: the one. -/
theorem rest_dma : bigSep ((rd (F := F) m ρ).duties (dcell c j hj) 0 \ ∅) (fun d => (rd (F := F) m ρ).payload (dcell c j hj) 0 d) = pay m ρ c j := by
  rw [Finset.sdiff_empty, duties_dma, bigSep_singleton, payload_dma]

end Sched

/-! ## What each device owes, in the order it pays -/

/-- Device `c`'s payments in program order: a unit to each other device's barrier, then the receiving cells of its copies. -/
def dues (c : Dev nD) : List (GSem nD τ sig × ℕ) :=
  [(barCell (sh c 1), 1), (barCell (sh c 2), 1), (barCell (sh c 3), 1),
    (dcell (sh c 1) 6, Nd), (dcell (sh c 3) 18, Nd), (dcell (sh c 1) 7, Nd), (dcell (sh c 3) 19, Nd),
    (dcell (sh c 1) 27, Ns), (dcell (sh c 2) 28, Ns), (dcell (sh c 3) 29, Ns),
    (dcell (sh c 1) 8, Nd), (dcell (sh c 3) 20, Nd), (dcell (sh c 1) 9, Nd), (dcell (sh c 3) 21, Nd),
    (dcell (sh c 1) 10, Nd), (dcell (sh c 3) 22, Nd), (dcell (sh c 1) 11, Nd), (dcell (sh c 3) 23, Nd)]

def owedL : List (GSem nD τ sig × ℕ) → CellTallies nD τ sig Unit
  | [] => 0
  | p :: l => owedL l + tallyAt p.1 () p.2

/-- What device `c` still owes after its first `n` payments. -/
def owed (c : Dev nD) (n : ℕ) : CellTallies nD τ sig Unit := owedL ((dues c).drop n)

theorem owedL_apply (l : List (GSem nD τ sig × ℕ)) (g : GSem nD τ sig) :
    owedL l g () = (l.map fun p => if p.1 = g then p.2 else 0).sum := by
  induction l with
  | nil => rfl
  | cons p l ih =>
    rw [owedL, Pi.add_apply, Finsupp.add_apply, ih, tallyAt_apply, List.map_cons, List.sum_cons, Nat.add_comm]
    congr 1
    by_cases h : p.1 = g
    · rw [if_pos h, if_pos ⟨h.symm, rfl⟩]
    · rw [if_neg h, if_neg fun h' => h h'.1.symm]

theorem owedL_pos {l : List (GSem nD τ sig × ℕ)} {g : GSem nD τ sig} {u : Unit} (h : 0 < owedL l g u) : ∃ p ∈ l, g = p.1 := by
  by_contra hn
  push Not at hn
  rw [show u = () from rfl, owedL_apply] at h
  rw [List.map_congr_left (g := fun _ => 0) fun p hp => if_neg fun h' => hn p hp h'.symm] at h
  simp at h

/-! ## The levels -/

/-- The level of a semaphore: the barrier 1, the statistics' receives 2, the receives of the ring's hops 3 and up, the rest 0. -/
def lvS : SemLoc sig → ℕ
  | .reg _ => 1
  | .dma q => if 9 ≤ q.val ∧ q.val < 15 then q.val - 6 else if 21 ≤ q.val ∧ q.val < 27 then q.val - 18 else if 30 ≤ q.val then 2 else 0

def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- The semaphores a device pays, in order: the same on every device. -/
def dueSems : List (SemLoc sig) :=
  [.reg barS, .reg barS, .reg barS, .dma (dsem 6), .dma (dsem 18), .dma (dsem 7), .dma (dsem 19), .dma (dsem 27), .dma (dsem 28), .dma (dsem 29),
    .dma (dsem 8), .dma (dsem 20), .dma (dsem 9), .dma (dsem 21), .dma (dsem 10), .dma (dsem 22), .dma (dsem 11), .dma (dsem 23)]

theorem dues_tc (c : Dev nD) : ∀ p ∈ dues c, p.1.1.2 = .tc := by
  intro p hp
  simp only [dues, List.mem_cons, List.not_mem_nil, or_false] at hp
  rcases hp with rfl | rfl | rfl | rfl | rfl | rfl | rfl | rfl | rfl | rfl | rfl | rfl | rfl | rfl | rfl | rfl | rfl | rfl <;> rfl
theorem dues_sems (c : Dev nD) : (dues c).map (fun p => p.1.2) = dueSems := rfl

omit [FloatOps F] in
/-- A device may wait on a semaphore below everything it still owes. -/
theorem mayWait (c : Dev nD) (sm : SemLoc sig) (n : ℕ) (h : ∀ s ∈ dueSems.drop n, lvS sm < lvS s) :
    (levAts L lv : sProp 𝕄) ⊢ MayWait (c : Thread nD τ) sm () (owed c n) := by
  refine MayOwe.of_cut (L := L) (lev := lv) (lvS sm) (fun p hp => by rw [Finset.mem_singleton.mp hp, L_tc]; exact Finset.mem_singleton_self _)
      (fun g u hg => ?_) (fun p hp => by rw [Finset.mem_singleton.mp hp]; exact le_refl _) (fun g u hg => ?_)
  · obtain ⟨p, hp, rfl⟩ := owedL_pos hg
    rw [L, if_pos (dues_tc c p (List.mem_of_mem_drop hp))]; exact Finset.mem_singleton_self _
  · obtain ⟨p, hp, rfl⟩ := owedL_pos hg
    refine h _ ?_
    rw [← dues_sems c, ← List.map_drop]
    exact List.mem_map_of_mem hp

/-! ## The records every device keeps -/

/-- Every cell's invariant, under the names the launch allocated them at, and that every cell has reached round 0. -/
def records (K : Dev nD × Fin 31 → ℕ) : sProp 𝕄 :=
  iprop((bigSep Finset.univ fun ck : Dev nD × Fin 31 => cellInv ER (rd m ρ) (K ck) (kcell ck))
    ∗ bigSep Finset.univ fun ck : Dev nD × Fin 31 => reached ER (kcell ck) 0)

instance records_persistent (K : Dev nD × Fin 31 → ℕ) : BI.Persistent (records m ρ K) := by unfold records; infer_instance

theorem inv_at (K : Dev nD × Fin 31 → ℕ) (ck : Dev nD × Fin 31) : records m ρ K ⊢ cellInv ER (rd m ρ) (K ck) (kcell ck) := by
  have h : (bigSep Finset.univ fun ck : Dev nD × Fin 31 => (cellInv ER (rd m ρ) (K ck) (kcell ck) : sProp 𝕄)) ⊢ cellInv ER (rd m ρ) (K ck) (kcell ck) :=
    bigSep_elim (Finset.mem_univ ck)
  unfold records; iintro ⟨#HI, -⟩; iapply h; iexact HI
theorem reached_at (K : Dev nD × Fin 31 → ℕ) (ck : Dev nD × Fin 31) : records m ρ K ⊢ reached ER (kcell ck) 0 := by
  have h : (bigSep Finset.univ fun ck : Dev nD × Fin 31 => (reached ER (kcell ck) 0 : sProp 𝕄)) ⊢ reached ER (kcell ck) 0 :=
    bigSep_elim (Finset.mem_univ ck)
  unfold records; iintro ⟨-, #HR⟩; iapply h; iexact HR
theorem inv_bar (K : Dev nD × Fin 31 → ℕ) (c : Dev nD) : records m ρ K ⊢ cellInv ER (rd m ρ) (K (c, 0)) (barCell c) := inv_at m ρ K (c, 0)
theorem inv_dma (K : Dev nD × Fin 31 → ℕ) (c : Dev nD) (j : ℕ) (hj : j < 30) :
    records m ρ K ⊢ cellInv ER (rd m ρ) (K (c, ⟨j + 1, Nat.succ_lt_succ hj⟩)) (dcell c j hj) := inv_at m ρ K (c, ⟨j + 1, Nat.succ_lt_succ hj⟩)
theorem reached_bar (K : Dev nD × Fin 31 → ℕ) (c : Dev nD) : records m ρ K ⊢ reached ER (barCell c) 0 := reached_at m ρ K (c, 0)
theorem reached_dma (K : Dev nD × Fin 31 → ℕ) (c : Dev nD) (j : ℕ) (hj : j < 30) : records m ρ K ⊢ reached ER (dcell c j hj) 0 :=
  reached_at m ρ K (c, ⟨j + 1, Nat.succ_lt_succ hj⟩)

end Cert.KernelIdealProof

end
-- ==== Proof.StepsIdeal.lean ====
/- One lemma per kind of effect of the kernel's body, over the ring's protocol: a signal, a copy to a neighbour, the wait for
   a copy, loads of gathered rows and the stores of the result. -/
module

public import proofs.«01_k».proof.Proof.RingIdeal

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program `p` runs on device `c` to `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What a device holds -/

/-- What never changes: every cell's invariant and round, and the levels. -/
def env (K : Dev nD × Fin 31 → ℕ) : sProp 𝕄 := iprop(records m ρ K ∗ levAts L lv)
instance env_persistent (K : Dev nD × Fin 31 → ℕ) : BI.Persistent (env m ρ K) := by unfold env; infer_instance

/-- What device `c` owes after `n` payments, whatever waits it has recorded. -/
def ow (c : Dev nD) (n : ℕ) : sProp 𝕄 := iprop(∃ W, owes (c : Thread nD τ) (owed c n) W)
/-- What it takes to start a copy from `c` under the send semaphore `jS` to `d`'s receive semaphore `jR`. -/
def sTok (c : Dev nD) (jS : ℕ) (d : Dev nD) (jR : ℕ) (hS : jS < 30 := by decide) (hR : jR < 30 := by decide) : sProp 𝕄 :=
  iprop(dutyTok ER (dcell c jS hS) 0 0 ∗ dutyTok ER (dcell d jR hR) 0 0 ∗ atPos ER (dcell c jS hS) 0 ∅ 0)
/-- What it takes to wait on `c`'s DMA semaphore `j`. -/
def wTok (c : Dev nD) (j : ℕ) (hj : j < 30 := by decide) : sProp 𝕄 :=
  iprop(cred (tallyAt (dcell c j hj) () (amt j)) ∗ atPos ER (dcell c j hj) 0 ∅ 0)
/-- `c`'s DMA semaphore `j` is at zero and done with. -/
abbrev zer (c : Dev nD) (j : ℕ) (hj : j < 30 := by decide) : sProp 𝕄 := semVal (dcell c j hj) 0

/-! ## Views of whole rows -/

/-- A slice of 64 rows of the gathered logits is those rows. -/
theorem gset (off : Fin 2 → ℕ) (inb) {lo : ℕ} (h : off = ![lo, 0]) :
    (gM.slice (Rect.unit (s := S1024x4096) off S64x4096.size inb) (fun _ => rfl)).view.set = grows lo 64 := by
  subst h
  show ((View.whole cc0_scratch0).slice _).set = _
  rw [View.set_slice_whole]
  ext i
  rw [Rect.mem_set_unit, mem_grows]
  refine ⟨fun h => h 0, fun h a => ?_⟩
  fin_cases a
  · exact h
  · exact ⟨Nat.zero_le _, by have := (i 1).isLt; exact lt_of_lt_of_eq this rfl⟩

/-- A slice of 256 rows of the gathered statistics is those rows. -/
theorem sset (off : Fin 2 → ℕ) (inb) {lo : ℕ} (h : off = ![lo, 0]) :
    (sM.slice (Rect.unit (s := S1024x8) off S256x8.size inb) (fun _ => rfl)).view.set = srows lo 256 := by
  subst h
  show ((View.whole cc0_scratch1).slice _).set = _
  rw [View.set_slice_whole]
  ext i
  rw [Rect.mem_set_unit, mem_srows]
  refine ⟨fun h => h 0, fun h a => ?_⟩
  fin_cases a
  · exact h
  · exact ⟨Nat.zero_le _, by have := (i 1).isLt; exact lt_of_lt_of_eq this rfl⟩

/-- A copy between the same rows of two buffers leaves those rows equal. -/
theorem copied_g (off : Fin 2 → ℕ) (inb) (fs fd : Buf (Elt F) (gloc 0)) :
    ∀ i ∈ (gM.slice (Rect.unit (s := S1024x4096) off S64x4096.size inb) (fun _ => rfl)).view.set,
      (gM.slice (Rect.unit (s := S1024x4096) off S64x4096.size inb) (fun _ => rfl)).view.write (Elt F) fd
        ((gM.slice (Rect.unit (s := S1024x4096) off S64x4096.size inb) (fun _ => rfl)).view.read (Elt F) fs) Finset.univ i = fs i := by
  intro i hi
  rw [View.write_read_eq_piecewise]
  exact Finset.piecewise_eq_of_mem _ _ _ hi
theorem copied_s (off : Fin 2 → ℕ) (inb) (fs fd : Buf (Elt F) (sloc 0)) :
    ∀ i ∈ (sM.slice (Rect.unit (s := S1024x8) off S256x8.size inb) (fun _ => rfl)).view.set,
      (sM.slice (Rect.unit (s := S1024x8) off S256x8.size inb) (fun _ => rfl)).view.write (Elt F) fd
        ((sM.slice (Rect.unit (s := S1024x8) off S256x8.size inb) (fun _ => rfl)).view.read (Elt F) fs) Finset.univ i = fs i := by
  intro i hi
  rw [View.write_read_eq_piecewise]
  exact Finset.piecewise_eq_of_mem _ _ _ hi

/-! ## The steps -/

variable (K : Dev nD × Fin 31 → ℕ)

/-- A unit to another device's barrier, with what its waiter is handed. -/
theorem step_signal (c d n : Dev nD) (hn : n = d) (e : Fin 3) (i : ℕ) (hi : owed c i = owed c (i + 1) + tallyAt (barCell d) () 1)
    {α : Type} {Q : α → sProp 𝕄} {k : PUnit → Prog (TpuEff nD τ sig (Elt F) Λ₀ .tc) α} :
    iprop(env m ρ K ∗ barPay d e ∗ dutyTok ER (barCell d) 0 e ∗ ow c i)
      ⊢ iprop((ow c (i + 1) -∗ runs c (k ⟨⟩) Q) -∗ runs c (.op (.semSignal (Dev.tc n : Thread nD τ) barS 1) k) Q) := by
  subst hn
  unfold env ow
  iintro ⟨⟨#HR, -⟩, Hp, Ht, ⟨%W, HO⟩⟩ Hk
  iapply (Rounds.wp_signal 𝒱₀ ER (rd m ρ) (c : Thread nD τ) none (dst := (n : Thread nD τ)) (κ := K (n, 0))
      (d := e) (by rw [duties_bar]; exact Finset.mem_univ _) (amount_bar m ρ n e) () (owed c (i + 1)) hi) $$ [HO Ht Hp]
  · isplitr; · iapply (inv_bar m ρ K n); iexact HR
    isplitl [HO]; · iexact HO
    isplitl [Ht]; · iexact Ht
    isplitl [Hp]; · rw [payload_bar]; iexact Hp
    iapply (reached_bar m ρ K n); iexact HR
  iintro HO
  iapply Hk; iexists W; iexact HO

/-- The wait for three units on its own barrier: what the three other devices handed over. -/
theorem step_barrier (c : Dev nD) (i : ℕ) (hlv : ∀ s ∈ dueSems.drop i, lvS (.reg barS) < lvS s)
    {α : Type} {Q : α → sProp 𝕄} {k : PUnit → Prog (TpuEff nD τ sig (Elt F) Λ₀ .tc) α} :
    iprop(env m ρ K ∗ cred (tallyAt (barCell c) () 3) ∗ atPos ER (barCell c) 0 ∅ 0 ∗ ow c i)
      ⊢ iprop(((barPay c 0 ∗ barPay c 1 ∗ barPay c 2 ∗ semVal (barCell c) 0 ∗ ow c i) -∗ runs c (k ⟨⟩) Q)
        -∗ runs c (.op (.semWait barS 3) k) Q) := by
  unfold env ow
  iintro ⟨⟨#HR, #HL⟩, Hc, Ha, ⟨%W, HO⟩⟩ Hk
  iapply (Rounds.wp_wait_rest_token 𝒱₀ ER (rd m ρ) (c : Thread nD τ) none (κ := K (c, 0))
      (wpE_semWait_eq 𝒱₀ (c : Thread nD τ) none Set.univ) (Set.mem_univ _) () (O := owed c i) (W := W) (R := 0) (m := 0) (T := ∅)
      (by rw [expect_bar])) $$ [Hc HO Ha]
  · isplitr; · iapply (inv_bar m ρ K c); iexact HR
    isplitl [Hc]; · iexact Hc
    isplitl [HO]; · iexact HO
    isplitr; · iapply (mayWait c (.reg barS) i hlv); iexact HL
    iexact Ha
  iintro ⟨HO, Ha, -, Hp⟩
  ihave Hp := (Entails.of_eq (rest_bar m ρ c)) $$ Hp
  icases Hp with ⟨H0, H1, H2⟩
  ihave #HI := (inv_bar m ρ K c) $$ HR
  imod (Rounds.cell_close ER (rd m ρ) (Set.mem_univ (K (c, 0))) (fun h => h) (R := 0 + 1) (duties_later m ρ (barCell c))) $$ [Ha] with Hz
  · isplitr; · iexact HI
    iexact Ha
  iapply Hk
  isplitl [H0]; · iexact H0
  isplitl [H1]; · iexact H1
  isplitl [H2]; · iexact H2
  isplitl [Hz]; · iexact Hz
  iexists (insert (SemLoc.reg barS, ()) W); iexact HO

/-- The wait for a copy: what its semaphore's schedule hands over, the semaphore done with. -/
theorem step_wait (c : Dev nD) (s : DmaSem sig) (j : ℕ) (hj : j < 30) (hs : s = dsem j hj)
    (i : ℕ) (hlv : ∀ s ∈ dueSems.drop i, lvS (.dma (dsem j hj)) < lvS s)
    {sp sp' : Space} {sh₁ sh₂ : Shape} {e₁ e₂ : EltTy} {src : Memref sig .tc sp' sh₂ e₂} {dst : Memref sig .tc sp sh₁ e₁}
    {hsrc : src.view.WordExact} {hdst : dst.view.WordExact} (hcr : dst.view.dmaCredit = amt j)
    {α : Type} {Q : α → sProp 𝕄} {k : PUnit → Prog (TpuEff nD τ sig (Elt F) Λ₀ .tc) α} :
    iprop(env m ρ K ∗ wTok c j hj ∗ ow c i)
      ⊢ iprop(((pay m ρ c j ∗ zer c j hj ∗ ow c i) -∗ runs c (k ⟨⟩) Q) -∗ runs c (.op (.waitDma2 s src dst hsrc hdst) k) Q) := by
  subst hs
  unfold env ow wTok
  rw [← hcr]
  iintro ⟨⟨#HR, #HL⟩, ⟨Hc, Ha⟩, ⟨%W, HO⟩⟩ Hk
  iapply (Rounds.wp_wait_rest_token 𝒱₀ ER (rd m ρ) (c : Thread nD τ) none (κ := K (c, ⟨j + 1, Nat.succ_lt_succ hj⟩))
      (wpE_waitDma2_eq 𝒱₀ (c : Thread nD τ) none Set.univ) (Set.mem_univ _) () (O := owed c i) (W := W) (R := 0) (m := 0) (T := ∅)
      (by rw [expect_dma m ρ c j hj, Nat.zero_add, hcr])) $$ [Hc HO Ha]
  · isplitr; · iapply (inv_dma m ρ K c j hj); iexact HR
    isplitl [Hc]; · iexact Hc
    isplitl [HO]; · iexact HO
    isplitr; · iapply (mayWait c (.dma (dsem j hj)) i hlv); iexact HL
    iexact Ha
  iintro ⟨HO, Ha, -, Hp⟩
  ihave Hp := (Entails.of_eq (rest_dma m ρ c j hj)) $$ Hp
  ihave #HI := (inv_dma m ρ K c j hj) $$ HR
  imod (Rounds.cell_close ER (rd m ρ) (Set.mem_univ (K (c, ⟨j + 1, Nat.succ_lt_succ hj⟩))) (fun h => h) (R := 0 + 1) (duties_later m ρ (dcell c j hj)))
    $$ [Ha] with Hz
  · isplitr; · iexact HI
    iexact Ha
  iapply Hk
  isplitl [Hp]; · iexact Hp
  isplitl [Hz]; · iexact Hz
  iexists (insert (SemLoc.dma (dsem j hj), ()) W); iexact HO

/-- A copy of 64 rows of logits to another device's same rows: half the source is lent until the send is waited for. -/
theorem step_send_g (c d n : Dev nD) (hn : n = d) (sS sR : DmaSem sig) (jS jR : ℕ) (hjS : jS < 30) (hjR : jR < 30) (hS : sS = dsem jS hjS) (hR : sR = dsem jR hjR)
    (off : Fin 2 → ℕ) (inb) (b : Dev nD) (q : ℕ) (hoff : off = ![256 * b.val + 64 * q, 0])
    (hpS : pay m ρ c jS = gPts m ρ c b q fullShare.left) (hpR : pay m ρ d jR = gPts m ρ d b q fullShare)
    (haS : amt jS = Nd) (haR : amt jR = Nd) (i : ℕ) (hi : owed c i = owed c (i + 1) + tallyAt (dcell d jR hjR) () Nd)
    {hsc : (gM.slice (Rect.unit (s := S1024x4096) off S64x4096.size inb) (fun _ => rfl) : Memref sig (Dev.tc n : Thread nD τ).2.kind .vmem S64x4096 .bf16).view.ref.isScScratch = false}
    {hsrc hdst} {hsem : DmaTarget.Typed .vmem (.dma sR) (.remote (Dev.tc n : Thread nD τ) (gM.slice (Rect.unit (s := S1024x4096) off S64x4096.size inb) (fun _ => rfl)) (.dma sS) hsc)}
    {α : Type} {Q : α → sProp 𝕄} {k : PUnit → Prog (TpuEff nD τ sig (Elt F) Λ₀ .tc) α} :
    iprop(env m ρ K ∗ gPts m ρ c b q fullShare ∗ jPts d b q ∗ sTok c jS d jR hjS hjR ∗ ow c i)
      ⊢ iprop(((gPts m ρ c b q fullShare.right ∗ wTok c jS hjS ∗ ow c (i + 1)) -∗ runs c (k ⟨⟩) Q)
        -∗ runs c (.op (.enqueueDma (gM.slice (Rect.unit (s := S1024x4096) off S64x4096.size inb) (fun _ => rfl))
            (.remote (Dev.tc n : Thread nD τ) (gM.slice (Rect.unit (s := S1024x4096) off S64x4096.size inb) (fun _ => rfl)) (.dma sS) hsc) (.dma sR) hsrc hdst hsem) k) Q) := by
  subst hn hS hR
  unfold env ow sTok wTok jPts
  iintro ⟨⟨#HR, -⟩, Hg, ⟨%fd, Hj⟩, ⟨HtS, HtR, Ha⟩, ⟨%W, HO⟩⟩ Hk
  ihave Hg := (show gPts m ρ c b q fullShare ⊢ iprop(gPts m ρ c b q fullShare.left ∗ gPts m ρ c b q fullShare.right) from
    (pointsTo_share (PosShare.mem_left_op_right fullShare)).1) $$ Hg
  icases Hg with ⟨HgL, HgR⟩
  iapply (Rounds.wp_send_pointsTo 𝒱₀ ER (rd m ρ) (c : Thread nD τ) none (κ₁ := K (c, ⟨jS + 1, Nat.succ_lt_succ hjS⟩)) (κ₂ := K (n, ⟨jR + 1, Nat.succ_lt_succ hjR⟩))
    (r₁ := 0) (r₂ := 0) (d₁ := 0) (d₂ := 0) (q := fullShare.left) (fs := Gfin m ρ) (fd := fd)
    (by rw [duties_dma m ρ c jS hjS]; exact Finset.mem_singleton_self _) (by rw [duties_dma m ρ n jR hjR]; exact Finset.mem_singleton_self _)
    () () Nd (by exact credit_g off inb) ((amount_dma m ρ c jS hjS 0).trans haS) ((amount_dma m ρ n jR hjR 0).trans haR) (owed c (i + 1)) hi (W := W)
    (by rw [payload_dma m ρ c jS hjS, hpS, gset off inb hoff]; exact BI.Entails.refl _)
    (by
      rw [payload_dma m ρ n jR hjR, hpR, pointsTo_congr (copied_g off inb (Gfin m ρ) fd), gset off inb hoff]; exact BI.Entails.refl _)) $$ [HgL Hj HO HtS HtR]
  · isplitr; · iapply (inv_dma m ρ K c jS hjS); iexact HR
    isplitr; · iapply (inv_dma m ρ K n jR hjR); iexact HR
    isplitl [HgL]; · rw [gset off inb hoff]; unfold gPts; iexact HgL
    isplitl [Hj]; · rw [gset off inb hoff]; iexact Hj
    isplitl [HO]; · iexact HO
    isplitl [HtS]; · iexact HtS
    isplitr; · iapply (reached_dma m ρ K c jS hjS); iexact HR
    isplitl [HtR]; · iexact HtR
    iapply (reached_dma m ρ K n jR hjR); iexact HR
  iintro ⟨Hc, HO⟩
  iapply Hk
  isplitl [HgR]; · iexact HgR
  isplitl [Hc Ha]
  · rw [haS]; isplitl [Hc] <;> iassumption
  iexists W; iexact HO

/-- A copy of its own 256 rows of statistics to another device: the lent share returns when the send is waited for. -/
theorem step_send_s (c d n : Dev nD) (hn : n = d) (sS sR : DmaSem sig) (jS jR : ℕ) (hjS : jS < 30) (hjR : jR < 30) (hS : sS = dsem jS hjS) (hR : sR = dsem jR hjR)
    (off : Fin 2 → ℕ) (inb) (hoff : off = ![256 * c.val, 0]) (s : PosShare TreeShare)
    (hpS : pay m ρ c jS = iprop(∃ f, sPts c c s f)) (hpR : pay m ρ d jR = iprop(∃ f, ⌜sOK m ρ c f⌝ ∗ sPts d c fullShare f))
    (haS : amt jS = Ns) (haR : amt jR = Ns) (i : ℕ) (hi : owed c i = owed c (i + 1) + tallyAt (dcell d jR hjR) () Ns)
    (f : FVec F S1024x8 .f32) (hf : sOK m ρ c f)
    {hsc : (sM.slice (Rect.unit (s := S1024x8) off S256x8.size inb) (fun _ => rfl) : Memref sig (Dev.tc n : Thread nD τ).2.kind .vmem S256x8 .f32).view.ref.isScScratch = false}
    {hsrc hdst} {hsem : DmaTarget.Typed .vmem (.dma sR) (.remote (Dev.tc n : Thread nD τ) (sM.slice (Rect.unit (s := S1024x8) off S256x8.size inb) (fun _ => rfl)) (.dma sS) hsc)}
    {α : Type} {Q : α → sProp 𝕄} {k : PUnit → Prog (TpuEff nD τ sig (Elt F) Λ₀ .tc) α} :
    iprop(env m ρ K ∗ sPts c c s f ∗ (∃ f, sPts d c fullShare f) ∗ sTok c jS d jR hjS hjR ∗ ow c i)
      ⊢ iprop(((wTok c jS hjS ∗ ow c (i + 1)) -∗ runs c (k ⟨⟩) Q)
        -∗ runs c (.op (.enqueueDma (sM.slice (Rect.unit (s := S1024x8) off S256x8.size inb) (fun _ => rfl))
            (.remote (Dev.tc n : Thread nD τ) (sM.slice (Rect.unit (s := S1024x8) off S256x8.size inb) (fun _ => rfl)) (.dma sS) hsc) (.dma sR) hsrc hdst hsem) k) Q) := by
  subst hn hS hR
  unfold env ow sTok wTok sPts
  iintro ⟨⟨#HR, -⟩, Hg, ⟨%fd, Hj⟩, ⟨HtS, HtR, Ha⟩, ⟨%W, HO⟩⟩ Hk
  iapply (Rounds.wp_send_pointsTo 𝒱₀ ER (rd m ρ) (c : Thread nD τ) none (κ₁ := K (c, ⟨jS + 1, Nat.succ_lt_succ hjS⟩)) (κ₂ := K (n, ⟨jR + 1, Nat.succ_lt_succ hjR⟩))
    (r₁ := 0) (r₂ := 0) (d₁ := 0) (d₂ := 0) (q := s) (fs := f) (fd := fd)
    (by rw [duties_dma m ρ c jS hjS]; exact Finset.mem_singleton_self _) (by rw [duties_dma m ρ n jR hjR]; exact Finset.mem_singleton_self _)
    () () Ns (by exact credit_s off inb) ((amount_dma m ρ c jS hjS 0).trans haS) ((amount_dma m ρ n jR hjR 0).trans haR) (owed c (i + 1)) hi (W := W)
    (by
      rw [payload_dma m ρ c jS hjS, hpS, sset off inb hoff]; unfold sPts
      iintro H; iexists f; iexact H)
    (by
      rw [payload_dma m ρ n jR hjR, hpR, pointsTo_congr (copied_s off inb f fd), sset off inb hoff]; unfold sPts
      iintro H; iexists f
      isplitr; · ipureintro; exact hf
      iexact H)) $$ [Hg Hj HO HtS HtR]
  · isplitr; · iapply (inv_dma m ρ K c jS hjS); iexact HR
    isplitr; · iapply (inv_dma m ρ K n jR hjR); iexact HR
    isplitl [Hg]; · rw [sset off inb hoff]; iexact Hg
    isplitl [Hj]; · rw [sset off inb hoff]; iexact Hj
    isplitl [HO]; · iexact HO
    isplitl [HtS]; · iexact HtS
    isplitr; · iapply (reached_dma m ρ K c jS hjS); iexact HR
    isplitl [HtR]; · iexact HtR
    iapply (reached_dma m ρ K n jR hjR); iexact HR
  iintro ⟨Hc, HO⟩
  iapply Hk
  isplitl [Hc Ha]
  · rw [haS]; isplitl [Hc] <;> iassumption
  iexists W; iexact HO

end Cert.KernelIdealProof

end
-- ==== Proof.DataIdeal.lean ====
/- The data the body moves, element by element: where the kernel's index chains point, what its loads of gathered rows read,
   what its stores leave, and the closed form of the result. -/
module

public import proofs.«01_k».proof.Proof.StepsIdeal
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Devices and offsets -/

/-- The devices the kernel's signals and copies name. -/
theorem dev_sig (c : Dev nD) : k0_dev1 c = (sh c 1).val ∧ k0_dev2 c = (sh c 2).val ∧ k0_dev3 c = (sh c 3).val := by revert c; decide +kernel
theorem dev_stat (c : Dev nD) : k0_dev8 c = (sh c 1).val ∧ k0_dev9 c = (sh c 2).val ∧ k0_dev10 c = (sh c 3).val := by revert c; decide +kernel
theorem dev_right (c : Dev nD) : k0_dev4 c = (sh c 1).val ∧ k0_dev6 c = (sh c 1).val ∧ k0_dev11 c = (sh c 1).val ∧ k0_dev13 c = (sh c 1).val
    ∧ k0_dev15 c = (sh c 1).val ∧ k0_dev17 c = (sh c 1).val := by revert c; decide +kernel
theorem dev_left (c : Dev nD) : k0_dev5 c = (sh c 3).val ∧ k0_dev7 c = (sh c 3).val ∧ k0_dev12 c = (sh c 3).val ∧ k0_dev14 c = (sh c 3).val
    ∧ k0_dev16 c = (sh c 3).val ∧ k0_dev18 c = (sh c 3).val := by revert c; decide +kernel

/-- Its own rows; -/
theorem off_own (c : Dev nD) : k0_off1 c = ![256 * c.val, 0] ∧ k0_off4 c = ![256 * c.val, 0] ∧ k0_off5 c = ![256 * c.val, 1] ∧ k0_off6 c = ![256 * c.val, 0] := by
  revert c; decide +kernel
/-- the rows of the copies moving right at hop `h`, of the block `4 - h` steps to the right; -/
theorem off_right (c : Dev nD) : k0_off2 c 0#32 0#32 = ![256 * c.val + 64 * 0, 0] ∧ k0_off2 c 0#32 64#32 = ![256 * c.val + 64 * 1, 0]
    ∧ k0_off2 c 1#32 0#32 = ![256 * (sh c 3).val + 64 * 0, 0] ∧ k0_off2 c 1#32 64#32 = ![256 * (sh c 3).val + 64 * 1, 0]
    ∧ k0_off2 c 2#32 0#32 = ![256 * (sh c 2).val + 64 * 0, 0] ∧ k0_off2 c 2#32 64#32 = ![256 * (sh c 2).val + 64 * 1, 0] := by
  revert c; decide +kernel
/-- and of those moving left, of the block `h` steps to the right. -/
theorem off_left (c : Dev nD) : k0_off3 c 0#32 0#32 = ![256 * c.val + 64 * 2, 0] ∧ k0_off3 c 0#32 64#32 = ![256 * c.val + 64 * 3, 0]
    ∧ k0_off3 c 1#32 0#32 = ![256 * (sh c 1).val + 64 * 2, 0] ∧ k0_off3 c 1#32 64#32 = ![256 * (sh c 1).val + 64 * 3, 0]
    ∧ k0_off3 c 2#32 0#32 = ![256 * (sh c 2).val + 64 * 2, 0] ∧ k0_off3 c 2#32 64#32 = ![256 * (sh c 2).val + 64 * 3, 0] := by
  revert c; decide +kernel
/-- The upper half block read at step `h`, and where its exponentials go; -/
theorem off_top (c : Dev nD) : k0_off8 c 0#32 = ![256 * c.val + 64 * 0, 0] ∧ k0_off8 c 1#32 = ![256 * (sh c 3).val + 64 * 0, 0] ∧ k0_off8 c 2#32 = ![256 * (sh c 2).val + 64 * 0, 0]
    ∧ k0_off9 c 0#32 = ![0, 4096 * c.val] ∧ k0_off9 c 1#32 = ![0, 4096 * (sh c 3).val] ∧ k0_off9 c 2#32 = ![0, 4096 * (sh c 2).val] := by
  revert c; decide +kernel
/-- the lower half block, and where its exponentials go; -/
theorem off_bot (c : Dev nD) : k0_off10 c 0#32 = ![256 * c.val + 64 * 2, 0] ∧ k0_off10 c 1#32 = ![256 * (sh c 1).val + 64 * 2, 0] ∧ k0_off10 c 2#32 = ![256 * (sh c 2).val + 64 * 2, 0]
    ∧ k0_off11 c 0#32 = ![128, 4096 * c.val] ∧ k0_off11 c 1#32 = ![128, 4096 * (sh c 1).val] ∧ k0_off11 c 2#32 = ![128, 4096 * (sh c 2).val] := by
  revert c; decide +kernel
/-- the four quarters that arrive last. -/
theorem off_last (c : Dev nD) : k0_off12 c 0#32 = ![256 * (sh c 1).val + 64 * 0, 0] ∧ k0_off12 c 64#32 = ![256 * (sh c 1).val + 64 * 1, 0]
    ∧ k0_off14 c 0#32 = ![256 * (sh c 3).val + 64 * 2, 0] ∧ k0_off14 c 64#32 = ![256 * (sh c 3).val + 64 * 3, 0]
    ∧ k0_off13 c = ![0, 4096 * (sh c 1).val] ∧ k0_off16 c = ![64, 4096 * (sh c 1).val]
    ∧ k0_off15 c = ![128, 4096 * (sh c 3).val] ∧ k0_off17 c = ![192, 4096 * (sh c 3).val] := by
  revert c; decide +kernel

/-! ## The result in closed form -/

/-- Column `k` of the statistics of device `b`. -/
def col (k : Fin 8) (b : Fin 4) : FVec F S256x1 .f32 := fun j => Sfin m ρ (ix2 ⟨256 * b.val + (j 0).val, by have := idx2_lt0 j; omega⟩ k)
/-- Each row's maximum plus the logarithm of its sum, over all four devices. -/
def Cfin : FVec F S256x1 .f32 :=
  k0_pay7 (col m ρ 0 0) (col m ρ 0 1) (col m ρ 0 2) (col m ρ 0 3) (col m ρ 1 0) (col m ρ 1 1) (col m ρ 1 2) (col m ρ 1 3)
    (k0_pay6 (col m ρ 0 0) (col m ρ 0 1) (col m ρ 0 2))
/-- A rounded logit minus a row's constant, exponentiated. -/
def outS (x : F .bf16) (y : F .f32) : F .f32 :=
  (exp (subf (extf .f32 (fun _ => x : FVec F S_ .bf16) bitsLt_bf16_f32) (fun _ => y : FVec F S_ .f32)) : FVec F S_ .f32) ix0
/-- The result, the same on every device: column `4096 b + n` of row `r` is from device `b`'s logit `(r, n)`. -/
def outFin : FVec F S256x16384 .f32 := fun i =>
  outS (Gfin m ρ (ix2 ⟨256 * ((i 1).val / 4096) + (i 0).val, by have := idx2_lt0 i; have := idx2_lt1 i; omega⟩ ⟨(i 1).val % 4096, by omega⟩))
    (Cfin m ρ (ix2 ⟨(i 0).val, idx2_lt0 i⟩ 0))

/-- Rows `lo … lo + n - 1` of the columns of device `b`. -/
def orows (lo n : ℕ) (b : Dev nD) : Finset S256x16384.Idx :=
  Finset.univ.filter fun i => (lo ≤ (i 0).val ∧ (i 0).val < lo + n) ∧ (4096 * b.val ≤ (i 1).val ∧ (i 1).val < 4096 * b.val + 4096)

/-- The exponentials of `n` loaded rows against rows `lo …` of the constant, element by element. -/
theorem exps_at {n : ℕ} (lo : ℕ) (hlt) (hs : S256x1.Slices ![lo, 0] ⟨2, ![n, 1]⟩) (hb : (⟨2, ![n, 1]⟩ : Shape).Broadcasts ⟨2, ![n, 4096]⟩)
    (v : FVec F ⟨2, ![n, 4096]⟩ .bf16) (C : FVec F S256x1 .f32) (j : (⟨2, ![n, 4096]⟩ : Shape).Idx) (r : Fin 256) (hr : r.val = lo + (j 0).val) :
    (exp (subf (extf .f32 v hlt) (broadcastTo ⟨2, ![n, 4096]⟩ (extractStridedSlice ⟨2, ![n, 1]⟩ ![lo, 0] C hs) hb)) : FVec F ⟨2, ![n, 4096]⟩ .f32) j
      = outS (v j) (C (ix2 r 0)) := by
  have h : broadcastTo ⟨2, ![n, 4096]⟩ (extractStridedSlice ⟨2, ![n, 1]⟩ ![lo, 0] C hs) hb j = C (ix2 r 0) := by
    unfold broadcastTo extractStridedSlice
    congr 1
    funext a
    fin_cases a
    · refine Fin.ext ?_
      show lo + _ = r.val
      rw [hr]
      congr 1
      dsimp only
      split
      · rename_i h1
        have := idx2_lt0 j
        have h1' : n = 1 := h1
        show 0 = (j 0).val
        omega
      · rfl
    · exact Subsingleton.elim (α := Fin 1) _ _
  show outS (v j) (broadcastTo ⟨2, ![n, 4096]⟩ (extractStridedSlice ⟨2, ![n, 1]⟩ ![lo, 0] C hs) hb j) = _
  rw [h]

/-! ## Loads and stores -/

/-- Where an `n`-row rectangle of the result puts its elements. -/
theorem orect_emb {n : ℕ} (off : Fin 2 → ℕ) (inb) {lo co : ℕ} (h : off = ![lo, co]) (j : (⟨2, ![n, 4096]⟩ : Shape).Idx) :
    (((Rect.unit (s := S256x16384) off ![n, 4096] inb).emb j 0).val = lo + (j 0).val) ∧ ((Rect.unit (s := S256x16384) off ![n, 4096] inb).emb j 1).val = co + (j 1).val := by
  subst h
  exact ⟨by rw [Rect.emb_apply]; show lo + 1 * (j 0).val = _; rw [Nat.one_mul], by rw [Rect.emb_apply]; show co + 1 * (j 1).val = _; rw [Nat.one_mul]⟩

/-- The gathered logits' row `256 b + lo + r`, against the constant's row `lo + r`, is the result there. -/
theorem outFin_at (b : Dev nD) (n lo : ℕ) (goff : Fin 2 → ℕ) (ginb) (hg : goff = ![256 * b.val + lo, 0]) (off : Fin 2 → ℕ) (inb) (ho : off = ![lo, 4096 * b.val])
    (hlt) (hs : S256x1.Slices ![lo, 0] ⟨2, ![n, 1]⟩) (hb : (⟨2, ![n, 1]⟩ : Shape).Broadcasts ⟨2, ![n, 4096]⟩) (j : (⟨2, ![n, 4096]⟩ : Shape).Idx) :
    (exp (subf (extf .f32 (gM.view.readAt (Elt F) (Rect.unit (s := S1024x4096) goff ![n, 4096] ginb).toLoadRect (Gfin m ρ) : FVec F ⟨2, ![n, 4096]⟩ .bf16) hlt)
        (broadcastTo ⟨2, ![n, 4096]⟩ (extractStridedSlice ⟨2, ![n, 1]⟩ ![lo, 0] (Cfin m ρ) hs) hb)) : FVec F ⟨2, ![n, 4096]⟩ .f32) j
      = outFin m ρ ((Rect.unit (s := S256x16384) off ![n, 4096] inb).emb j) := by
  obtain ⟨h0, h1⟩ := orect_emb off inb ho j
  have hj0 := idx2_lt0 j
  have hj1 := idx2_lt1 j
  have hr : lo + (j 0).val < 256 := by rw [← h0]; exact idx2_lt0 _
  rw [exps_at lo hlt hs hb _ _ j ⟨lo + (j 0).val, hr⟩ rfl]
  unfold outFin
  refine congrArg₂ outS ?_ ?_
  · show Gfin m ρ ((Rect.unit (s := S1024x4096) goff ![n, 4096] ginb).emb j) = _
    refine congrArg (Gfin m ρ) ?_
    subst hg
    have hb4 : b.val < 4 := b.isLt
    funext a
    fin_cases a
    · refine Fin.ext ?_
      show (256 * b.val + lo) + 1 * (j 0).val = 256 * (_ / 4096) + _
      rw [h0, h1]; omega
    · refine Fin.ext ?_
      show 0 + 1 * (j 1).val = _ % 4096
      rw [h1]; omega
  · exact congrArg (fun r => Cfin m ρ (ix2 r 0)) (Fin.ext h0.symm)

/-- What device `c`'s result buffer holds when the elements `D` are done. -/
def ob (c : Dev nD) (D : Finset S256x16384.Idx) : sProp 𝕄 :=
  iprop(∃ f : FVec F S256x16384 .f32, ⌜∀ i ∈ D, f i = outFin m ρ i⌝ ∗ ((c : Thread nD τ).loc cc0_stg2_0 ↦{fullShare} f))

/-- A load of the result buffer whose value is not used. -/
theorem step_load_o {α : Type} {Q : α → sProp 𝕄} (c : Dev nD) (D : Finset S256x16384.Idx) {r : LoadRect S256x16384} {hl}
    {k : (r.shape.Idx → Elt F .f32) → Prog (TpuEff nD τ sig (Elt F) Λ₀ .tc) α} :
    ob m ρ c D ⊢ iprop((∀ v, ob m ρ c D -∗ runs c (k v) Q) -∗ runs c (.op (.load oM r hl) k) Q) := by
  unfold ob
  iintro ⟨%f, %hf, H⟩ Hk
  iapply (wp_load 𝒱₀ (c : Thread nD τ) none Set.univ (m := oM) (Finset.subset_univ _)) $$ [H]
  · iexact H
  iintro H
  iapply Hk; iexists f
  isplitr; · ipureintro; exact hf
  iexact H

/-- A store of `n` rows of exponentials: those elements of the result are done. -/
theorem step_store_o {α : Type} {Q : α → sProp 𝕄} (c : Dev nD) (D : Finset S256x16384.Idx) (b : Dev nD) (n lo : ℕ) {off : Fin 2 → ℕ} {inb} (ho : off = ![lo, 4096 * b.val])
    {goff : Fin 2 → ℕ} (ginb) (hg : goff = ![256 * b.val + lo, 0])
    (hs : S256x1.Slices ![lo, 0] ⟨2, ![n, 1]⟩) (hb : (⟨2, ![n, 1]⟩ : Shape).Broadcasts ⟨2, ![n, 4096]⟩)
    {w : FVec F ⟨2, ![n, 4096]⟩ .f32}
    (hw : w = exp (subf (extf .f32 (gM.view.readAt (Elt F) (Rect.unit (s := S1024x4096) goff ![n, 4096] ginb).toLoadRect (Gfin m ρ) : FVec F ⟨2, ![n, 4096]⟩ .bf16) bitsLt_bf16_f32)
        (broadcastTo ⟨2, ![n, 4096]⟩ (extractStridedSlice ⟨2, ![n, 1]⟩ ![lo, 0] (Cfin m ρ) hs) hb)))
    {hx : ((oM : Memref sig .tc .vmem S256x16384 .f32).access (Rect.unit (s := S256x16384) off ![n, 4096] inb)).Stores Finset.univ} {hm}
    {k : PUnit → Prog (TpuEff nD τ sig (Elt F) Λ₀ .tc) α} :
    ob m ρ c D ⊢ iprop((ob m ρ c (D ∪ orows lo n b) -∗ runs c (k ⟨⟩) Q)
      -∗ runs c (.op (.store (oM : Memref sig .tc .vmem S256x16384 .f32) (Rect.unit (s := S256x16384) off ![n, 4096] inb) w Finset.univ hx hm) k) Q) := by
  have hD : ∀ (f : FVec F S256x16384 .f32), (∀ i ∈ D, f i = outFin m ρ i) → ∀ i ∈ D ∪ orows lo n b,
      ((oM : Memref sig .tc .vmem S256x16384 .f32).access (Rect.unit (s := S256x16384) off ![n, 4096] inb)).write (Elt F) f w Finset.univ i = outFin m ρ i := by
    intro f hf i hi
    have hset : ((oM : Memref sig .tc .vmem S256x16384 .f32).access (Rect.unit (s := S256x16384) off ![n, 4096] inb)).setOn Finset.univ
        = (Rect.unit (s := S256x16384) off ![n, 4096] inb).set := View.set_slice_whole cc0_stg2_0 _
    by_cases hin : i ∈ (Rect.unit (s := S256x16384) off ![n, 4096] inb).set
    · rw [← Rect.map_emb_univ, Finset.mem_map] at hin
      obtain ⟨j, -, rfl⟩ := hin
      refine (View.write_emb_of_mem (Val := Elt F) (v := (oM : Memref sig .tc .vmem S256x16384 .f32).access (Rect.unit (s := S256x16384) off ![n, 4096] inb)) f w (x := j) (Finset.mem_univ j)).trans ?_
      show w j = _
      rw [hw]
      exact outFin_at m ρ b n lo goff ginb hg off inb ho bitsLt_bf16_f32 hs hb j
    · rw [View.write_of_not_mem _ _ _ (by rw [hset]; exact hin)]
      rcases Finset.mem_union.mp hi with h | h
      · exact hf i h
      · exfalso
        apply hin
        subst ho
        rw [Rect.mem_set_unit]
        obtain ⟨-, h0, h1⟩ := Finset.mem_filter.mp h
        intro a
        fin_cases a
        · exact h0
        · exact h1
  unfold ob
  iintro ⟨%f, %hf, H⟩ Hk
  iapply (wp_store 𝒱₀ (c : Thread nD τ) none Set.univ (m := oM) (Finset.subset_univ _)) $$ [H]
  · iexact H
  iintro H
  iapply Hk; iexists _
  isplitr; · ipureintro; exact hD f hf
  iexact H

/-- A rectangle of `n` whole rows of the gathered logits is those rows. -/
theorem gaccess (n : ℕ) (off : Fin 2 → ℕ) (inb) {lo : ℕ} (h : off = ![lo, 0]) :
    (gM.access (Rect.unit (s := S1024x4096) off ![n, 4096] inb)).set = grows lo n := by
  subst h
  show ((View.whole cc0_scratch0).slice _).set = _
  rw [View.set_slice_whole]
  ext i
  rw [Rect.mem_set_unit, mem_grows]
  refine ⟨fun h => h 0, fun h a => ?_⟩
  fin_cases a
  · exact h
  · exact ⟨Nat.zero_le _, by have := (i 1).isLt; exact lt_of_lt_of_eq this rfl⟩

/-- Rows split in two. -/
theorem grows_add (d : Dev nD) (lo n₁ n₂ : ℕ) (s : PosShare TreeShare) (f : Buf (Elt F) (gloc d)) :
    (iprop(gloc d ↦[grows lo (n₁ + n₂)]{s} f) : sProp 𝕄) ⊣⊢ iprop((gloc d ↦[grows lo n₁]{s} f) ∗ (gloc d ↦[grows (lo + n₁) n₂]{s} f)) := by
  have hd : Disjoint (grows lo n₁) (grows (lo + n₁) n₂) := Finset.disjoint_left.mpr fun i h h' => by rw [mem_grows] at h h'; omega
  have hu : grows lo (n₁ + n₂) = grows lo n₁ ∪ grows (lo + n₁) n₂ := by
    ext i; rw [Finset.mem_union, mem_grows, mem_grows, mem_grows]; omega
  rw [hu]
  exact pointsTo_union hd

/-- A load of 64 gathered rows, held at any share, -/
theorem step_load_64 {α : Type} {Q : α → sProp 𝕄} (c : Dev nD) (b : Dev nD) (q : ℕ) (s : PosShare TreeShare) {off : Fin 2 → ℕ} {inb} (hoff : off = ![256 * b.val + 64 * q, 0]) {hl}
    {k : ((Rect.unit (s := S1024x4096) off S64x4096.size inb).toLoadRect.shape.Idx → Elt F .bf16) → Prog (TpuEff nD τ sig (Elt F) Λ₀ .tc) α} :
    gPts m ρ c b q s ⊢ iprop((gPts m ρ c b q s -∗ runs c (k (gM.view.readAt (Elt F) (Rect.unit (s := S1024x4096) off S64x4096.size inb).toLoadRect (Gfin m ρ))) Q)
      -∗ runs c (.op (.load gM (Rect.unit (s := S1024x4096) off S64x4096.size inb).toLoadRect hl) k) Q) := by
  have hS := (gaccess 64 off inb hoff).le
  rw [View.set_slice] at hS
  unfold gPts
  exact wp_load 𝒱₀ (c : Thread nD τ) none Set.univ (m := gM) hS

/-- and of 128, two quarters at one share. -/
theorem step_load_128 {α : Type} {Q : α → sProp 𝕄} (c : Dev nD) (b : Dev nD) (q : ℕ) (s : PosShare TreeShare) {off : Fin 2 → ℕ} {inb} (hoff : off = ![256 * b.val + 64 * q, 0]) {hl}
    {k : ((Rect.unit (s := S1024x4096) off S128x4096.size inb).toLoadRect.shape.Idx → Elt F .bf16) → Prog (TpuEff nD τ sig (Elt F) Λ₀ .tc) α} :
    iprop(gPts m ρ c b q s ∗ gPts m ρ c b (q + 1) s) ⊢ iprop(((gPts m ρ c b q s ∗ gPts m ρ c b (q + 1) s)
        -∗ runs c (k (gM.view.readAt (Elt F) (Rect.unit (s := S1024x4096) off S128x4096.size inb).toLoadRect (Gfin m ρ))) Q)
      -∗ runs c (.op (.load gM (Rect.unit (s := S1024x4096) off S128x4096.size inb).toLoadRect hl) k) Q) := by
  have hj := grows_add (F := F) c (256 * b.val + 64 * q) 64 64 s (Gfin m ρ)
  have hS := (gaccess 128 off inb hoff).le
  rw [View.set_slice] at hS
  unfold gPts
  rw [show 256 * b.val + 64 * (q + 1) = 256 * b.val + 64 * q + 64 by omega]
  iintro H Hk
  ihave H := hj.2 $$ H
  iapply (wp_load 𝒱₀ (c : Thread nD τ) none Set.univ (m := gM) hS) $$ [H]
  · iexact H
  iintro H
  iapply Hk
  iapply hj.1; iexact H

/-- A load of one of the two columns in use of block `b` of the gathered statistics. -/
theorem step_load_s {α : Type} {Q : α → sProp 𝕄} (c : Dev nD) (b : Dev nD) (l : Fin 8) (hl2 : l.val < 2) (s : PosShare TreeShare) (f : FVec F S1024x8 .f32) (hf : sOK m ρ b f)
    {off : Fin 2 → ℕ} {inb} (hoff : off = ![256 * b.val, l.val]) {hl}
    {k : ((Rect.unit (s := S1024x8) off S256x1.size inb).toLoadRect.shape.Idx → Elt F .f32) → Prog (TpuEff nD τ sig (Elt F) Λ₀ .tc) α} :
    sPts c b s f ⊢ iprop((sPts c b s f -∗ runs c (k (col m ρ l b)) Q)
      -∗ runs c (.op (.load sM (Rect.unit (s := S1024x8) off S256x1.size inb).toLoadRect hl) k) Q) := by
  subst hoff
  have hmem : ∀ j : S256x1.Idx, (Rect.unit (s := S1024x8) ![256 * b.val, l.val] S256x1.size inb).emb j
      = ix2 ⟨256 * b.val + (j 0).val, by have := idx2_lt0 j; have : b.val < 4 := b.isLt; omega⟩ l := by
    intro j
    funext a
    fin_cases a
    · exact Fin.ext (by show 256 * b.val + 1 * (j 0).val = 256 * b.val + (j 0).val; omega)
    · exact Fin.ext (by show l.val + 1 * (j 1).val = l.val; have := idx2_lt1 j; omega)
  have hv : sM.view.readAt (Elt F) (Rect.unit (s := S1024x8) ![256 * b.val, l.val] S256x1.size inb).toLoadRect f = col m ρ l b := by
    funext j
    show f ((Rect.unit (s := S1024x8) ![256 * b.val, l.val] S256x1.size inb).emb j) = _
    rw [hmem j]
    have := idx2_lt0 j
    exact hf _ (by rw [mem_srows]; show 256 * b.val ≤ 256 * b.val + (j 0).val ∧ 256 * b.val + (j 0).val < 256 * b.val + 256; omega) hl2
  have hS : (sM.access (Rect.unit (s := S1024x8) ![256 * b.val, l.val] S256x1.size inb)).set ⊆ srows (256 * b.val) 256 := by
    show ((View.whole cc0_scratch1).slice _).set ⊆ _
    rw [View.set_slice_whole]
    intro i hi
    rw [Rect.mem_set_unit] at hi
    exact mem_srows.mpr (hi 0)
  rw [View.set_slice] at hS
  rw [← hv]
  unfold sPts
  exact wp_load 𝒱₀ (c : Thread nD τ) none Set.univ (m := sM) hS

end Cert.KernelIdealProof

end
-- ==== Proof.RowsIdeal.lean ====
/- The gathered buffers divided into blocks and quarters, and the loads and stores that touch a device's own block. -/
module

public import proofs.«01_k».proof.Proof.DataIdeal

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Blocks -/

/-- The devices from any one on. -/
theorem devs_from (c : Dev nD) : Finset.univ = [c, sh c 1, sh c 2, sh c 3].toFinset ∧ [c, sh c 1, sh c 2, sh c 3].Nodup := by
  revert c; decide

/-- One thing per device, in the order of the devices or from any device on. -/
theorem around (Φ : Dev nD → sProp 𝕄) (c : Dev nD) :
    iprop(Φ (0 : Fin 4) ∗ Φ (1 : Fin 4) ∗ Φ (2 : Fin 4) ∗ Φ (3 : Fin 4)) = iprop(Φ c ∗ Φ (sh c 1) ∗ Φ (sh c 2) ∗ Φ (sh c 3)) := by
  have h1 := bigSep_univ_eq_bigSepL (M := 𝕄) [c, sh c 1, sh c 2, sh c 3] (devs_from c).1 (devs_from c).2 Φ
  have h2 := bigSep_univ_eq_bigSepL (M := 𝕄) ([0, 1, 2, 3] : List (Fin 4)) (by decide) (by decide) Φ
  exact h2.symm.trans h1

/-- Some rows of gathered logits, holding anything, split in two. -/
theorem junk_add (c : Dev nD) (lo n₁ n₂ : ℕ) :
    (iprop(∃ f : Buf (Elt F) (gloc c), gloc c ↦[grows lo (n₁ + n₂)]{fullShare} f) : sProp 𝕄)
      ⊣⊢ iprop((∃ f : Buf (Elt F) (gloc c), gloc c ↦[grows lo n₁]{fullShare} f) ∗ (∃ f : Buf (Elt F) (gloc c), gloc c ↦[grows (lo + n₁) n₂]{fullShare} f)) := by
  have hd : Disjoint (grows lo n₁) (grows (lo + n₁) n₂) := Finset.disjoint_left.mpr fun i h h' => by rw [mem_grows] at h h'; omega
  have hu : grows lo (n₁ + n₂) = grows lo n₁ ∪ grows (lo + n₁) n₂ := by
    ext i; rw [Finset.mem_union, mem_grows, mem_grows, mem_grows]; omega
  constructor
  · iintro ⟨%f, H⟩
    ihave H := (grows_add c lo n₁ n₂ fullShare f).1 $$ H
    icases H with ⟨H1, H2⟩
    isplitl [H1]
    · iexists f; iexact H1
    · iexists f; iexact H2
  · iintro ⟨⟨%f, H1⟩, ⟨%g, H2⟩⟩
    iexists _
    rw [hu]
    iapply (pointsTo_join hd)
    isplitl [H1] <;> iassumption

/-- Some rows of gathered statistics likewise. -/
theorem sjunk_add (c : Dev nD) (lo n₁ n₂ : ℕ) :
    (iprop(∃ f : Buf (Elt F) (sloc c), sloc c ↦[srows lo (n₁ + n₂)]{fullShare} f) : sProp 𝕄)
      ⊣⊢ iprop((∃ f : Buf (Elt F) (sloc c), sloc c ↦[srows lo n₁]{fullShare} f) ∗ (∃ f : Buf (Elt F) (sloc c), sloc c ↦[srows (lo + n₁) n₂]{fullShare} f)) := by
  have hd : Disjoint (srows lo n₁) (srows (lo + n₁) n₂) := Finset.disjoint_left.mpr fun i h h' => by rw [mem_srows] at h h'; omega
  have hu : srows lo (n₁ + n₂) = srows lo n₁ ∪ srows (lo + n₁) n₂ := by
    ext i; rw [Finset.mem_union, mem_srows, mem_srows, mem_srows]; omega
  rw [hu]
  constructor
  · iintro ⟨%f, H⟩
    ihave H := (pointsTo_union hd).1 $$ H
    icases H with ⟨H1, H2⟩
    isplitl [H1]
    · iexists f; iexact H1
    · iexists f; iexact H2
  · iintro ⟨⟨%f, H1⟩, ⟨%g, H2⟩⟩
    iexists _
    iapply (pointsTo_join hd)
    isplitl [H1] <;> iassumption

/-- Block `b` of device `c`'s gathered logits, and of its statistics, holding anything. -/
def jBlk (c b : Dev nD) : sProp 𝕄 := iprop(∃ f : Buf (Elt F) (gloc c), gloc c ↦[grows (256 * b.val) 256]{fullShare} f)
def sBlk (c b : Dev nD) : sProp 𝕄 := iprop(∃ f : Buf (Elt F) (sloc c), sPts c b fullShare f)

/-- A block is its four quarters. -/
theorem blk_quarters (c b : Dev nD) : jBlk (F := F) c b ⊣⊢ iprop(jPts c b 0 ∗ jPts c b 1 ∗ jPts c b 2 ∗ jPts c b 3) := by
  have h1 := junk_add (F := F) c (256 * b.val) 64 192
  have h2 := junk_add (F := F) c (256 * b.val + 64) 64 128
  have h3 := junk_add (F := F) c (256 * b.val + 128) 64 64
  unfold jBlk jPts
  constructor
  · iintro H
    ihave H := h1.1 $$ H
    icases H with ⟨H0, H⟩
    ihave H := h2.1 $$ H
    icases H with ⟨H1, H⟩
    ihave H := h3.1 $$ H
    icases H with ⟨H2, H3⟩
    isplitl [H0]; · iexact H0
    isplitl [H1]; · iexact H1
    isplitl [H2]; · iexact H2
    iexact H3
  · iintro ⟨H0, H1, H2, H3⟩
    iapply h1.2
    isplitl [H0]; · iexact H0
    iapply h2.2
    isplitl [H1]; · iexact H1
    iapply h3.2
    isplitl [H2]; · iexact H2
    iexact H3

theorem grows_all : grows 0 1024 = Finset.univ := by
  ext i; rw [mem_grows]; have := idx2_lt0 i; exact ⟨fun _ => Finset.mem_univ _, fun _ => by omega⟩
theorem srows_all : srows 0 1024 = Finset.univ := by
  ext i; rw [mem_srows]; have := idx2_lt0 i; exact ⟨fun _ => Finset.mem_univ _, fun _ => by omega⟩

/-- The gathered logits are the four blocks, -/
theorem scratch0_blocks (c : Dev nD) : (iprop(∃ f : Buf (Elt F) (gloc c), gloc c ↦{fullShare} f) : sProp 𝕄)
    ⊣⊢ iprop(jBlk c c ∗ jBlk c (sh c 1) ∗ jBlk c (sh c 2) ∗ jBlk c (sh c 3)) := by
  have h1 := junk_add (F := F) c 0 256 768
  have h2 := junk_add (F := F) c 256 256 512
  have h3 := junk_add (F := F) c 512 256 256
  rw [← around (fun b => jBlk (F := F) c b) c]
  rw [show (256 : ℕ) + 768 = 1024 from rfl, grows_all] at h1
  unfold jBlk
  constructor
  · iintro H
    ihave H := h1.1 $$ H
    icases H with ⟨H0, H⟩
    ihave H := h2.1 $$ H
    icases H with ⟨H1, H⟩
    ihave H := h3.1 $$ H
    icases H with ⟨H2, H3⟩
    isplitl [H0]; · iexact H0
    isplitl [H1]; · iexact H1
    isplitl [H2]; · iexact H2
    iexact H3
  · iintro ⟨H0, H1, H2, H3⟩
    iapply h1.2
    isplitl [H0]; · iexact H0
    iapply h2.2
    isplitl [H1]; · iexact H1
    iapply h3.2
    isplitl [H2]; · iexact H2
    iexact H3

/-- and so are the gathered statistics. -/
theorem scratch1_blocks (c : Dev nD) : (iprop(∃ f : Buf (Elt F) (sloc c), sloc c ↦{fullShare} f) : sProp 𝕄)
    ⊣⊢ iprop(sBlk c c ∗ sBlk c (sh c 1) ∗ sBlk c (sh c 2) ∗ sBlk c (sh c 3)) := by
  have h1 := sjunk_add (F := F) c 0 256 768
  have h2 := sjunk_add (F := F) c 256 256 512
  have h3 := sjunk_add (F := F) c 512 256 256
  rw [← around (fun b => sBlk (F := F) c b) c]
  rw [show (256 : ℕ) + 768 = 1024 from rfl, srows_all] at h1
  unfold sBlk sPts
  constructor
  · iintro H
    ihave H := h1.1 $$ H
    icases H with ⟨H0, H⟩
    ihave H := h2.1 $$ H
    icases H with ⟨H1, H⟩
    ihave H := h3.1 $$ H
    icases H with ⟨H2, H3⟩
    isplitl [H0]; · iexact H0
    isplitl [H1]; · iexact H1
    isplitl [H2]; · iexact H2
    iexact H3
  · iintro ⟨H0, H1, H2, H3⟩
    iapply h1.2
    isplitl [H0]; · iexact H0
    iapply h2.2
    isplitl [H1]; · iexact H1
    iapply h3.2
    isplitl [H2]; · iexact H2
    iexact H3

/-! ## Shares -/

/-- Two halves of a share of the same elements join, whatever each is said to hold. -/
theorem join_share {ℓ : Loc nD τ sig} {I : Finset (Idx ℓ)} (q : PosShare TreeShare) :
    iprop((∃ f : Buf (Elt F) ℓ, ℓ ↦[I]{q.left} f) ∗ (∃ f : Buf (Elt F) ℓ, ℓ ↦[I]{q.right} f)) ⊢ (iprop(∃ f : Buf (Elt F) ℓ, ℓ ↦[I]{q} f) : sProp 𝕄) := by
  iintro ⟨⟨%f, H1⟩, ⟨%g, H2⟩⟩
  ihave %h := (pointsTo_agree (ℓ := ℓ) (I := I) (J := I) (q₁ := q.left) (q₂ := q.right) (f := f) (g := g)) $$ [H1 H2]
  · isplitl [H1] <;> iassumption
  iexists f
  iapply (pointsTo_share (PosShare.mem_left_op_right q)).2
  isplitl [H1]; · iexact H1
  ihave H2 := (Entails.of_eq (pointsTo_congr (f := g) (g := f) (fun i hi => ((h i (Finset.mem_inter.mpr ⟨hi, hi⟩)).1).symm))) $$ H2
  iexact H2

/-- A quarter whose halves are both here, its contents forgotten. -/
theorem g_join (c b : Dev nD) (q : ℕ) : iprop(gPts m ρ c b q fullShare.left ∗ gPts m ρ c b q fullShare.right) ⊢ jPts c b q := by
  unfold gPts jPts
  iintro H
  iexists (Gfin m ρ)
  iapply (pointsTo_share (PosShare.mem_left_op_right fullShare)).2; iexact H
theorem g_forget (c b : Dev nD) (q : ℕ) : gPts m ρ c b q fullShare ⊢ jPts c b q := by
  unfold gPts jPts
  iintro H
  iexists (Gfin m ρ); iexact H

/-- Its own statistics, divided for the three sends and itself, -/
theorem s_lend (c : Dev nD) (f : Buf (Elt F) (sloc c)) : (sPts c c fullShare f : sProp 𝕄)
    ⊢ iprop(sPts c c (lent 0) f ∗ sPts c c (lent 1) f ∗ sPts c c (lent 2) f ∗ sPts c c kept f) := by
  unfold sPts
  iintro H
  ihave H := (pointsTo_share (PosShare.mem_left_op_right fullShare)).1 $$ H
  icases H with ⟨H0, H⟩
  ihave H := (pointsTo_share (PosShare.mem_left_op_right fullShare.right)).1 $$ H
  icases H with ⟨H1, H⟩
  ihave H := (pointsTo_share (PosShare.mem_left_op_right fullShare.right.right)).1 $$ H
  icases H with ⟨H2, H3⟩
  isplitl [H0]; · iexact H0
  isplitl [H1]; · iexact H1
  isplitl [H2]; · iexact H2
  iexact H3

/-- and put together again. -/
theorem s_back (c : Dev nD) :
    iprop((∃ f, sPts c c (lent 0) f) ∗ (∃ f, sPts c c (lent 1) f) ∗ (∃ f, sPts c c (lent 2) f) ∗ (∃ f, sPts c c kept f)) ⊢ (sBlk c c : sProp 𝕄) := by
  unfold sBlk sPts
  iintro ⟨H0, H1, H2, H3⟩
  iapply (join_share fullShare)
  isplitl [H0]; · iexact H0
  iapply (join_share fullShare.right)
  isplitl [H1]; · iexact H1
  iapply (join_share fullShare.right.right)
  isplitl [H2]; · iexact H2
  iexact H3

/-- Block `b` of `c`'s statistics once all have arrived: its own at the share it kept. -/
def sOne (c b : Dev nD) : sProp 𝕄 := iprop(∃ f, ⌜sOK m ρ b f⌝ ∗ sPts c b (if b = c then kept else fullShare) f)

theorem sOne_self (c : Dev nD) : sOne m ρ c c = iprop(∃ f, ⌜sOK m ρ c f⌝ ∗ sPts c c kept f) := by unfold sOne; rw [if_pos rfl]
theorem sOne_other {c b : Dev nD} (h : b ≠ c) : sOne m ρ c b = iprop(∃ f, ⌜sOK m ρ b f⌝ ∗ sPts c b fullShare f) := by unfold sOne; rw [if_neg h]
theorem sh_ne (c : Dev nD) : sh c 1 ≠ c ∧ sh c 2 ≠ c ∧ sh c 3 ≠ c := by revert c; decide

/-! ## A device's own block -/

/-- A load of its own block whose value is not used. -/
theorem step_load_own {α : Type} {Q : α → sProp 𝕄} (c : Dev nD) {off : Fin 2 → ℕ} {inb} (hoff : off = ![256 * c.val, 0]) {hl}
    {k : ((Rect.unit (s := S1024x4096) off S256x4096.size inb).toLoadRect.shape.Idx → Elt F .bf16) → Prog (TpuEff nD τ sig (Elt F) Λ₀ .tc) α} :
    jBlk c c ⊢ iprop((∀ v, jBlk c c -∗ runs c (k v) Q) -∗ runs c (.op (.load gM (Rect.unit (s := S1024x4096) off S256x4096.size inb).toLoadRect hl) k) Q) := by
  have hS := (gaccess 256 off inb hoff).le
  rw [View.set_slice] at hS
  unfold jBlk
  iintro ⟨%f, H⟩ Hk
  iapply (wp_load 𝒱₀ (c : Thread nD τ) none Set.univ (m := gM) hS) $$ [H]
  · iexact H
  iintro H
  iapply Hk; iexists f; iexact H

/-- The store of its rounded logits over its own block: the block's four quarters hold what they will at the end. -/
theorem step_store_own {α : Type} {Q : α → sProp 𝕄} (c : Dev nD) {off : Fin 2 → ℕ} {inb} (hoff : off = ![256 * c.val, 0])
    {hx : (gM.access (Rect.unit (s := S1024x4096) off S256x4096.size inb)).Stores Finset.univ} {hm}
    {k : PUnit → Prog (TpuEff nD τ sig (Elt F) Λ₀ .tc) α} :
    jBlk c c ⊢ iprop(((gPts m ρ c c 0 fullShare ∗ gPts m ρ c c 1 fullShare ∗ gPts m ρ c c 2 fullShare ∗ gPts m ρ c c 3 fullShare) -∗ runs c (k ⟨⟩) Q)
      -∗ runs c (.op (.store gM (Rect.unit (s := S1024x4096) off S256x4096.size inb) (lgb m ρ c) Finset.univ hx hm) k) Q) := by
  have hS := gaccess 256 off inb hoff
  have hw : ∀ (f : FVec F S1024x4096 .bf16), ∀ i ∈ grows (256 * c.val) 256,
      (gM.access (Rect.unit (s := S1024x4096) off S256x4096.size inb)).write (Elt F) f (lgb m ρ c) Finset.univ i = Gfin m ρ i := by
    intro f i hi
    rw [← hS, View.set, Finset.mem_map] at hi
    obtain ⟨j, -, rfl⟩ := hi
    refine (View.write_emb_of_mem (Val := Elt F) (v := gM.access (Rect.unit (s := S1024x4096) off S256x4096.size inb)) f (lgb m ρ c) (x := j) (Finset.mem_univ j)).trans ?_
    show lgb m ρ c j = Gfin m ρ ((Rect.unit (s := S1024x4096) off S256x4096.size inb).emb j)
    subst hoff
    have hj := idx2_lt0 j
    have hc : c.val < 4 := c.isLt
    have h0 : ((Rect.unit (s := S1024x4096) ![256 * c.val, 0] S256x4096.size inb).emb j 0).val = 256 * c.val + (j 0).val := by
      show 256 * c.val + 1 * (j 0).val = _; omega
    have h1 : (Rect.unit (s := S1024x4096) ![256 * c.val, 0] S256x4096.size inb).emb j 1 = j 1 := Fin.ext (by show 0 + 1 * (j 1).val = _; omega)
    unfold Gfin
    have hb : blkOf ((Rect.unit (s := S1024x4096) ![256 * c.val, 0] S256x4096.size inb).emb j 0) = c := Fin.ext (by
      show ((Rect.unit (s := S1024x4096) ![256 * c.val, 0] S256x4096.size inb).emb j 0).val / 256 = c.val
      rw [h0]; omega)
    have hi : inBlk ((Rect.unit (s := S1024x4096) ![256 * c.val, 0] S256x4096.size inb).emb j 0) = j 0 := Fin.ext (by
      show ((Rect.unit (s := S1024x4096) ![256 * c.val, 0] S256x4096.size inb).emb j 0).val % 256 = (j 0).val
      rw [h0]; omega)
    rw [hb, hi, h1]
    exact congrArg (lgb m ρ c) (eq_ix2 j)
  have h1 := grows_add (F := F) c (256 * c.val) 64 192 fullShare (Gfin m ρ)
  have h2 := grows_add (F := F) c (256 * c.val + 64) 64 128 fullShare (Gfin m ρ)
  have h3 := grows_add (F := F) c (256 * c.val + 128) 64 64 fullShare (Gfin m ρ)
  unfold jBlk gPts
  iintro ⟨%f, H⟩ Hk
  iapply (wp_store 𝒱₀ (c : Thread nD τ) none Set.univ (m := gM) hS.le) $$ [H]
  · iexact H
  iintro H
  ihave H := (Entails.of_eq (pointsTo_congr (hw f))) $$ H
  iapply Hk
  ihave H := h1.1 $$ H
  icases H with ⟨H0, H⟩
  ihave H := h2.1 $$ H
  icases H with ⟨H1, H⟩
  ihave H := h3.1 $$ H
  icases H with ⟨H2, H3⟩
  isplitl [H0]; · iexact H0
  isplitl [H1]; · iexact H1
  isplitl [H2]; · iexact H2
  iexact H3

/-- Statistics with column `l` of every block replaced by `w`. -/
def put (l : ℕ) (w : FVec F S256x1 .f32) (f : FVec F S1024x8 .f32) : FVec F S1024x8 .f32 :=
  fun i => if (i 1).val = l then w (ix2 (inBlk (i 0)) 0) else f i

/-- The access of a column of its own block of statistics. -/
theorem scol_mem (c : Dev nD) (l : ℕ) (off : Fin 2 → ℕ) (inb) (hoff : off = ![256 * c.val, l]) (i : S1024x8.Idx) :
    i ∈ (Rect.unit (s := S1024x8) off S256x1.size inb).set ↔ i ∈ srows (256 * c.val) 256 ∧ (i 1).val = l := by
  subst hoff
  rw [Rect.mem_set_unit, mem_srows]
  constructor
  · intro h
    have h1 : l ≤ (i 1).val ∧ (i 1).val < l + 1 := h 1
    exact ⟨h 0, by omega⟩
  · rintro ⟨h0, h1⟩ a
    fin_cases a
    · exact h0
    · exact (⟨by omega, by omega⟩ : l ≤ (i 1).val ∧ (i 1).val < l + 1)

theorem scol_sub (c : Dev nD) (l : ℕ) (off : Fin 2 → ℕ) (inb) (hoff : off = ![256 * c.val, l]) :
    (sM.access (Rect.unit (s := S1024x8) off S256x1.size inb)).set ⊆ srows (256 * c.val) 256 := by
  show ((View.whole cc0_scratch1).slice _).set ⊆ _
  rw [View.set_slice_whole]
  exact fun i hi => ((scol_mem c l off inb hoff i).mp hi).1

/-- A load of a column of its own statistics whose value is not used. -/
theorem step_load_col {α : Type} {Q : α → sProp 𝕄} (c : Dev nD) (l : ℕ) {off : Fin 2 → ℕ} {inb} (hoff : off = ![256 * c.val, l]) (s : PosShare TreeShare) (f : FVec F S1024x8 .f32) {hl}
    {k : ((Rect.unit (s := S1024x8) off S256x1.size inb).toLoadRect.shape.Idx → Elt F .f32) → Prog (TpuEff nD τ sig (Elt F) Λ₀ .tc) α} :
    sPts c c s f ⊢ iprop((∀ v, sPts c c s f -∗ runs c (k v) Q) -∗ runs c (.op (.load sM (Rect.unit (s := S1024x8) off S256x1.size inb).toLoadRect hl) k) Q) := by
  have hS := scol_sub c l off inb hoff
  rw [View.set_slice] at hS
  unfold sPts
  iintro H Hk
  iapply (wp_load 𝒱₀ (c : Thread nD τ) none Set.univ (m := sM) hS) $$ [H]
  · iexact H
  iintro H
  iapply Hk; iexact H

/-- A store of a column of its own statistics. -/
theorem step_store_col {α : Type} {Q : α → sProp 𝕄} (c : Dev nD) (l : ℕ) {off : Fin 2 → ℕ} {inb} (hoff : off = ![256 * c.val, l]) (f : FVec F S1024x8 .f32)
    {w : FVec F S256x1 .f32} {hx : (sM.access (Rect.unit (s := S1024x8) off S256x1.size inb)).Stores Finset.univ} {hm}
    {k : PUnit → Prog (TpuEff nD τ sig (Elt F) Λ₀ .tc) α} :
    sPts c c fullShare f ⊢ iprop((sPts c c fullShare (put l w f) -∗ runs c (k ⟨⟩) Q)
      -∗ runs c (.op (.store sM (Rect.unit (s := S1024x8) off S256x1.size inb) w Finset.univ hx hm) k) Q) := by
  have hS := scol_sub c l off inb hoff
  have hw : ∀ i ∈ srows (256 * c.val) 256,
      (sM.access (Rect.unit (s := S1024x8) off S256x1.size inb)).write (Elt F) f w Finset.univ i = put l w f i := by
    intro i hi
    have hset : (sM.access (Rect.unit (s := S1024x8) off S256x1.size inb)).setOn Finset.univ = (Rect.unit (s := S1024x8) off S256x1.size inb).set :=
      View.set_slice_whole cc0_scratch1 _
    unfold put
    by_cases h : (i 1).val = l
    · rw [if_pos h]
      have hin := (scol_mem c l off inb hoff i).mpr ⟨hi, h⟩
      rw [← Rect.map_emb_univ, Finset.mem_map] at hin
      obtain ⟨j, -, rfl⟩ := hin
      refine (View.write_emb_of_mem (Val := Elt F) (v := sM.access (Rect.unit (s := S1024x8) off S256x1.size inb)) f w (x := j) (Finset.mem_univ j)).trans ?_
      show w j = w _
      refine congrArg w ?_
      subst hoff
      have hj := idx2_lt0 j
      have hj1 := idx2_lt1 j
      rw [eq_ix2 j]
      congr 1
      · refine Fin.ext ?_
        show (j 0).val = (256 * c.val + 1 * (j 0).val) % 256
        omega
      · exact Subsingleton.elim (α := Fin 1) _ _
    · rw [if_neg h]
      exact View.write_of_not_mem _ _ _ (by rw [hset]; exact fun hin => h ((scol_mem c l off inb hoff i).mp hin).2)
  unfold sPts
  iintro H Hk
  iapply (wp_store 𝒱₀ (c : Thread nD τ) none Set.univ (m := sM) hS) $$ [H]
  · iexact H
  iintro H
  iapply Hk
  ihave H := (Entails.of_eq (pointsTo_congr hw)) $$ H
  iexact H

/-- After both columns are stored the block holds the device's statistics. -/
theorem put_ok (c : Dev nD) (f : FVec F S1024x8 .f32) : sOK m ρ c (put 1 (k0_pay5 (lg m ρ c)) (put 0 (k0_pay4 (lg m ρ c)) f)) := by
  intro i hi hi2
  rw [mem_srows] at hi
  have hb : blkOf (i 0) = c := Fin.ext (by show (i 0).val / 256 = c.val; omega)
  unfold put Sfin
  rw [hb]
  by_cases h0 : (i 1).val = 0
  · rw [if_neg (by omega), if_pos h0, if_pos h0]
  · rw [if_pos (by omega), if_neg h0]

end Cert.KernelIdealProof

end
-- ==== Proof.PartsAIdeal.lean ====
/- The kernel's body up to the exchange of statistics, part by part: what each part needs and what it leaves. -/
module

public import proofs.«01_k».proof.Proof.RowsIdeal

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each copy hands over, around the ring -/

theorem sh_five (c : Dev nD) : sh c 5 = sh c 1 := sh_add_four c 1
theorem sh_six (c : Dev nD) : sh c 6 = sh c 2 := sh_add_four c 2

/-- The copies to the right: what returns to the sender, and what the receiver gets; -/
theorem pay_right (c : Dev nD) :
    (pay m ρ c 0 = gPts m ρ c c 0 fullShare.left ∧ pay m ρ c 1 = gPts m ρ c c 1 fullShare.left)
    ∧ pay m ρ (sh c 1) 6 = gPts m ρ (sh c 1) c 0 fullShare ∧ pay m ρ (sh c 1) 7 = gPts m ρ (sh c 1) c 1 fullShare
    ∧ pay m ρ (sh c 1) 8 = gPts m ρ (sh c 1) (sh c 3) 0 fullShare ∧ pay m ρ (sh c 1) 9 = gPts m ρ (sh c 1) (sh c 3) 1 fullShare
    ∧ pay m ρ (sh c 1) 10 = gPts m ρ (sh c 1) (sh c 2) 0 fullShare ∧ pay m ρ (sh c 1) 11 = gPts m ρ (sh c 1) (sh c 2) 1 fullShare := by
  have h4 := sh_four c
  refine ⟨⟨?_, ?_⟩, ?_, ?_, ?_, ?_, ?_, ?_⟩
  · show gPts m ρ c (sh c 4) 0 _ = _; rw [h4]
  · show gPts m ρ c (sh c 4) 1 _ = _; rw [h4]
  · show gPts m ρ (sh c 1) (sh (sh c 1) 3) 0 _ = _; rw [sh_sh, h4]
  · show gPts m ρ (sh c 1) (sh (sh c 1) 3) 1 _ = _; rw [sh_sh, h4]
  · show gPts m ρ (sh c 1) (sh (sh c 1) 2) 0 _ = _; rw [sh_sh]
  · show gPts m ρ (sh c 1) (sh (sh c 1) 2) 1 _ = _; rw [sh_sh]
  · show gPts m ρ (sh c 1) (sh (sh c 1) 1) 0 _ = _; rw [sh_sh]
  · show gPts m ρ (sh c 1) (sh (sh c 1) 1) 1 _ = _; rw [sh_sh]

/-- those to the left; -/
theorem pay_left (c : Dev nD) :
    (pay m ρ c 12 = gPts m ρ c c 2 fullShare.left ∧ pay m ρ c 13 = gPts m ρ c c 3 fullShare.left)
    ∧ pay m ρ (sh c 3) 18 = gPts m ρ (sh c 3) c 2 fullShare ∧ pay m ρ (sh c 3) 19 = gPts m ρ (sh c 3) c 3 fullShare
    ∧ pay m ρ (sh c 3) 20 = gPts m ρ (sh c 3) (sh c 1) 2 fullShare ∧ pay m ρ (sh c 3) 21 = gPts m ρ (sh c 3) (sh c 1) 3 fullShare
    ∧ pay m ρ (sh c 3) 22 = gPts m ρ (sh c 3) (sh c 2) 2 fullShare ∧ pay m ρ (sh c 3) 23 = gPts m ρ (sh c 3) (sh c 2) 3 fullShare := by
  have h4 := sh_four c
  refine ⟨⟨?_, ?_⟩, ?_, ?_, ?_, ?_, ?_, ?_⟩
  · show gPts m ρ c (sh c 0) 2 _ = _; rw [sh_zero]
  · show gPts m ρ c (sh c 0) 3 _ = _; rw [sh_zero]
  · show gPts m ρ (sh c 3) (sh (sh c 3) 1) 2 _ = _; rw [sh_sh, h4]
  · show gPts m ρ (sh c 3) (sh (sh c 3) 1) 3 _ = _; rw [sh_sh, h4]
  · show gPts m ρ (sh c 3) (sh (sh c 3) 2) 2 _ = _; rw [sh_sh, sh_five]
  · show gPts m ρ (sh c 3) (sh (sh c 3) 2) 3 _ = _; rw [sh_sh, sh_five]
  · show gPts m ρ (sh c 3) (sh (sh c 3) 3) 2 _ = _; rw [sh_sh, sh_six]
  · show gPts m ρ (sh c 3) (sh (sh c 3) 3) 3 _ = _; rw [sh_sh, sh_six]

/-- those of the statistics. -/
theorem pay_stat (c : Dev nD) :
    pay m ρ (sh c 1) 27 = iprop(∃ f, ⌜sOK m ρ c f⌝ ∗ sPts (sh c 1) c fullShare f) ∧ pay m ρ (sh c 2) 28 = iprop(∃ f, ⌜sOK m ρ c f⌝ ∗ sPts (sh c 2) c fullShare f)
    ∧ pay m ρ (sh c 3) 29 = iprop(∃ f, ⌜sOK m ρ c f⌝ ∗ sPts (sh c 3) c fullShare f) := by
  have h4 := sh_four c
  refine ⟨?_, ?_, ?_⟩
  · show iprop(∃ f, ⌜sOK m ρ (sh (sh c 1) 3) f⌝ ∗ sPts (sh c 1) (sh (sh c 1) 3) fullShare f) = _; rw [sh_sh, h4]
  · show iprop(∃ f, ⌜sOK m ρ (sh (sh c 2) 2) f⌝ ∗ sPts (sh c 2) (sh (sh c 2) 2) fullShare f) = _; rw [sh_sh, h4]
  · show iprop(∃ f, ⌜sOK m ρ (sh (sh c 3) 1) f⌝ ∗ sPts (sh c 3) (sh (sh c 3) 1) fullShare f) = _; rw [sh_sh, h4]

theorem stats_at {a b : Dev nD} (h : a = b) (d : Dev nD) : (iprop(∃ f, sPts a d fullShare f) : sProp 𝕄) = iprop(∃ f, sPts b d fullShare f) := by
  subst h; rfl

/-- What its signals hand over: the right neighbour, the device opposite, the left neighbour. -/
theorem bar_right (c : Dev nD) : barPay (F := F) (sh c 1) 0 = iprop((∃ f, sPts c (sh c 1) fullShare f) ∗ jPts c (sh c 1) 2 ∗ jPts c (sh c 1) 3
    ∗ jPts c (sh c 2) 2 ∗ jPts c (sh c 2) 3 ∗ jPts c (sh c 3) 2 ∗ jPts c (sh c 3) 3) := by
  unfold barPay; rw [stats_at (show sh (sh c 1) 3 = c by rw [sh_sh, sh_four])]; simp only [sh_sh, sh_four, Nat.reduceAdd]
theorem bar_across (c : Dev nD) : barPay (F := F) (sh c 2) 1 = iprop(∃ f, sPts c (sh c 2) fullShare f) := by
  unfold barPay; rw [stats_at (show sh (sh c 2) 2 = c by rw [sh_sh, sh_four])]
theorem bar_left (c : Dev nD) : barPay (F := F) (sh c 3) 2 = iprop((∃ f, sPts c (sh c 3) fullShare f) ∗ jPts c (sh c 3) 0 ∗ jPts c (sh c 3) 1
    ∗ jPts c (sh c 2) 0 ∗ jPts c (sh c 2) 1 ∗ jPts c (sh c 1) 0 ∗ jPts c (sh c 1) 1) := by
  unfold barPay; rw [stats_at (show sh (sh c 3) 1 = c by rw [sh_sh, sh_four])]; simp only [sh_sh, sh_four, sh_five, sh_six, Nat.reduceAdd]

/-! ## The parts -/

/-- A finished program. -/
theorem runs_ret {α : Type} (c : Dev nD) {a : α} {Q : α → sProp 𝕄} : Q a ⊢ runs c (.ret a) Q := by
  unfold runs
  rw [wp_ret]
  iintro H
  imodintro
  iexact H

variable (K : Dev nD × Fin 31 → ℕ)

/-- The staged blocks of `x` and `W`. -/
def xw (c : Dev nD) : sProp 𝕄 :=
  iprop(((c : Thread nD τ).loc cc0_stg0_0 ↦{fullShare} xstg m ρ c) ∗ ((c : Thread nD τ).loc cc0_stg1_0 ↦{fullShare} wstg m ρ c))

set_option maxRecDepth 65536

/-- A wait for a copy, saying what it hands over. -/
theorem step_take (c : Dev nD) (j : ℕ) (hj : j < 30) {P : sProp 𝕄} (hP : pay m ρ c j = P) (i : ℕ) (hlv : ∀ s ∈ dueSems.drop i, lvS (.dma (dsem j hj)) < lvS s)
    {s : DmaSem sig} (hs : s = dsem j hj)
    {sp sp' : Space} {sh₁ sh₂ : Shape} {e₁ e₂ : EltTy} {src : Memref sig .tc sp' sh₂ e₂} {dst : Memref sig .tc sp sh₁ e₁}
    {hsrc : src.view.WordExact} {hdst : dst.view.WordExact} (hcr : dst.view.dmaCredit = amt j)
    {α : Type} {Q : α → sProp 𝕄} {k : PUnit → Prog (TpuEff nD τ sig (Elt F) Λ₀ .tc) α} :
    iprop(env m ρ K ∗ wTok c j hj ∗ ow c i)
      ⊢ iprop(((P ∗ zer c j hj ∗ ow c i) -∗ runs c (k ⟨⟩) Q) -∗ runs c (.op (.waitDma2 s src dst hsrc hdst) k) Q) := by
  subst hP
  exact step_wait m ρ K c s j hj hs i hlv hcr

/-- Part 1 multiplies. -/
theorem part1 (c : Dev nD) {Kt : (Σ' (d0 : Dev nD) (v2 : BitVec 32) (v13 : BitVec 32) (v24 : BitVec 32) (v29 : FVec F S256x4096 .f32), FVec F S256x4096 .bf16) → sProp 𝕄} :
    iprop(xw m ρ c ∗ jBlk c c)
      ⊢ iprop((∀ v2 v13 v24, (xw m ρ c ∗ jBlk c c) -∗ Kt ⟨c, v2, v13, v24, lg m ρ c, lgb m ρ c⟩)
        -∗ runs c (k0_part1 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7) Kt) := by
  rw [k0_part1_eq_skeleton]; unfold k0_part1_skel
  simp only [Prog.lift, Prog.bind_op, Prog.bind_ret, Prog.pure_eq_ret, wp_deviceId]
  have hx : xM.view.readAt (Elt F) (Rect.unit (s := S256x512) ![0, 0] ![256, 512] inb_S256x512_S256x512_0_0).toLoadRect (xstg m ρ c) = xstg m ρ c :=
    Memref.readAt_unit_zero (Elt F) cc0_stg0_0 (by decide) _ _
  have hw : wM.view.readAt (Elt F) (Rect.unit (s := S512x4096) ![0, 0] ![512, 4096] inb_S512x4096_S512x4096_0_0).toLoadRect (wstg m ρ c) = wstg m ρ c :=
    Memref.readAt_unit_zero (Elt F) cc0_stg1_0 (by decide) _ _
  unfold xw lg lgb
  iintro ⟨⟨Hx, Hw⟩, Hj⟩ Hk
  iapply (wp_load 𝒱₀ (c : Thread nD τ) none Set.univ (m := xM) (Finset.subset_univ _)) $$ [Hx]
  · iexact Hx
  iintro Hx
  iapply (wp_load 𝒱₀ (c : Thread nD τ) none Set.univ (m := wM) (Finset.subset_univ _)) $$ [Hw]
  · iexact Hw
  iintro Hw
  rw [hx, hw]
  iapply (step_load_own c (off_own c).1) $$ [Hj]
  · iexact Hj
  iintro %v Hj
  iapply (runs_ret c)
  ihave Hk := Hk $$ %_ %_ %_
  iapply Hk
  isplitr [Hj]
  · isplitl [Hx] <;> iassumption
  iexact Hj

/-- Part 2 stores the rounded logits over the device's own block and signals two devices. -/
theorem part2 (c : Dev nD) (v2 : BitVec 32) {Kt : (Σ' (v36 : Sems sig S_) (v65 : BitVec 32) (v66 : BitVec 32), BitVec 1) → sProp 𝕄} :
    iprop(env m ρ K ∗ jBlk c c ∗ barPay (sh c 1) 0 ∗ barPay (sh c 2) 1 ∗ dutyTok ER (barCell (sh c 1)) 0 0 ∗ dutyTok ER (barCell (sh c 2)) 0 1 ∗ ow c 0)
      ⊢ iprop((∀ v65 v66 v67, (gPts m ρ c c 0 fullShare ∗ gPts m ρ c c 1 fullShare ∗ gPts m ρ c c 2 fullShare ∗ gPts m ρ c c 3 fullShare ∗ ow c 2)
          -∗ Kt ⟨SemArray.scalar (sig.barrier 0 rfl), v65, v66, v67⟩)
        -∗ runs c (k0_part2 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c v2 (lgb m ρ c)) Kt) := by
  rw [k0_part2_eq_skeleton]; unfold k0_part2_skel
  simp only [Prog.lift, semSignalWord, Prog.bind_op, Prog.bind_ret, Prog.pure_eq_ret]
  iintro ⟨#HE, Hj, Hb1, Hb2, Ht1, Ht2, HO⟩ Hk
  iapply (step_store_own m ρ c (off_own c).1) $$ [Hj]
  · iexact Hj
  iintro ⟨H0, H1, H2, H3⟩
  iapply (step_signal m ρ K c (sh c 1) _ (Fin.ext (dev_sig c).1) 0 0 rfl) $$ [$]
  iintro HO
  iapply (step_signal m ρ K c (sh c 2) _ (Fin.ext (dev_sig c).2.1) 1 1 rfl) $$ [$]
  iintro HO
  iapply (runs_ret c)
  ihave Hk := Hk $$ %_ %_ %_
  iapply Hk
  iframe

/-- Part 3 signals the third and waits for all three. -/
theorem part3 (c : Dev nD) (v2 v65 v66 : BitVec 32) (v67 : BitVec 1) {Kt : (Σ' (v86 : BitVec 32) (v97 : BitVec 32) (v100 : BitVec 32), BitVec 32) → sProp 𝕄} :
    iprop(env m ρ K ∗ barPay (sh c 3) 2 ∗ dutyTok ER (barCell (sh c 3)) 0 2 ∗ cred (tallyAt (barCell c) () 3) ∗ atPos ER (barCell c) 0 ∅ 0 ∗ ow c 2)
      ⊢ iprop((∀ v86 v97 v100 c0, (barPay c 0 ∗ barPay c 1 ∗ barPay c 2 ∗ semVal (barCell c) 0 ∗ ow c 3) -∗ Kt ⟨v86, v97, v100, c0⟩)
        -∗ runs c (k0_part3 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c v2 (SemArray.scalar (sig.barrier 0 rfl)) v65 v66 v67) Kt) := by
  rw [k0_part3_eq_skeleton]; unfold k0_part3_skel
  simp only [Prog.lift, semSignalWord, semWaitWord, Prog.bind_op, Prog.bind_ret, Prog.pure_eq_ret]
  iintro ⟨#HE, Hb, Ht, Hc, Ha, HO⟩ Hk
  iapply (step_signal m ρ K c (sh c 3) _ (Fin.ext (dev_sig c).2.2) 2 2 rfl) $$ [$]
  iintro HO
  iapply (step_barrier m ρ K c 3 (by decide)) $$ [$]
  iintro H
  iapply (runs_ret c)
  ihave Hk := Hk $$ %_ %_ %_ %_
  iapply Hk
  iexact H

/-- Part 4 starts the first copies to the right and to the left. -/
theorem part4 (c : Dev nD) (v13 v24 v86 v97 v100 w : BitVec 32) {Kt : (Σ' (v131 : BitVec 32), BitVec 32) → sProp 𝕄} :
    iprop(env m ρ K ∗ gPts m ρ c c 0 fullShare ∗ gPts m ρ c c 2 fullShare ∗ jPts (sh c 1) c 0 ∗ jPts (sh c 3) c 2
        ∗ sTok c 0 (sh c 1) 6 ∗ sTok c 12 (sh c 3) 18 ∗ ow c 3)
      ⊢ iprop((∀ v131 w', (gPts m ρ c c 0 fullShare.right ∗ gPts m ρ c c 2 fullShare.right ∗ wTok c 0 ∗ wTok c 12 ∗ ow c 5) -∗ Kt ⟨v131, w'⟩)
        -∗ runs c (k0_part4 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c v13 v24 v86 v97 v100 w) Kt) := by
  rw [k0_part4_eq_skeleton]; unfold k0_part4_skel
  simp only [Prog.lift, Prog.bind_op, Prog.bind_ret, Prog.pure_eq_ret]
  iintro ⟨#HE, HgR, HgL, HjR, HjL, HtR, HtL, HO⟩ Hk
  iapply (step_send_g m ρ K c (sh c 1) _ (Fin.ext (dev_right c).1) _ _ 0 6 _ _ rfl rfl _ _ c 0 (off_right c).1
    (pay_right m ρ c).1.1 (pay_right m ρ c).2.1 rfl rfl 3 rfl) $$ [$]
  iintro ⟨HgR, HwR, HO⟩
  iapply (step_send_g m ρ K c (sh c 3) _ (Fin.ext (dev_left c).1) _ _ 12 18 _ _ rfl rfl _ _ c 2 (off_left c).1
    (pay_left m ρ c).1.1 (pay_left m ρ c).2.1 rfl rfl 4 rfl) $$ [$]
  iintro ⟨HgL, HwL, HO⟩
  iapply (runs_ret c)
  ihave Hk := Hk $$ %_ %_
  iapply Hk
  iframe

/-- Part 5 starts the second copies to the right and to the left, and stores the device's statistics. -/
theorem part5 (c : Dev nD) (v2 v13 v24 v131 w : BitVec 32) {Kt : PUnit → sProp 𝕄} :
    iprop(env m ρ K ∗ gPts m ρ c c 1 fullShare ∗ gPts m ρ c c 3 fullShare ∗ jPts (sh c 1) c 1 ∗ jPts (sh c 3) c 3
        ∗ sTok c 1 (sh c 1) 7 ∗ sTok c 13 (sh c 3) 19 ∗ sBlk c c ∗ ow c 5)
      ⊢ iprop(((gPts m ρ c c 1 fullShare.right ∗ gPts m ρ c c 3 fullShare.right ∗ wTok c 1 ∗ wTok c 13
          ∗ (∃ f, ⌜sOK m ρ c f⌝ ∗ sPts c c fullShare f) ∗ ow c 7) -∗ Kt ⟨⟩)
        -∗ runs c (k0_part5 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c v2 v13 v24 (lg m ρ c) v131 w) Kt) := by
  rw [k0_part5_eq_skeleton]; unfold k0_part5_skel
  simp only [Prog.lift, Prog.bind_op, Prog.bind_ret, Prog.pure_eq_ret]
  unfold sBlk
  iintro ⟨#HE, HgR, HgL, HjR, HjL, HtR, HtL, ⟨%f, Hs⟩, HO⟩ Hk
  iapply (step_send_g m ρ K c (sh c 1) _ (Fin.ext (dev_right c).2.1) _ _ 1 7 _ _ rfl rfl _ _ c 1 (off_right c).2.1
    (pay_right m ρ c).1.2 (pay_right m ρ c).2.2.1 rfl rfl 5 rfl) $$ [$]
  iintro ⟨HgR, HwR, HO⟩
  iapply (step_send_g m ρ K c (sh c 3) _ (Fin.ext (dev_left c).2.1) _ _ 13 19 _ _ rfl rfl _ _ c 3 (off_left c).2.1
    (pay_left m ρ c).1.2 (pay_left m ρ c).2.2.1 rfl rfl 6 rfl) $$ [$]
  iintro ⟨HgL, HwL, HO⟩
  iapply (step_load_col c 0 (off_own c).2.1 fullShare f) $$ [$]
  iintro %v Hs
  iapply (step_store_col c 0 (off_own c).2.1 f) $$ [$]
  iintro Hs
  iapply (step_load_col c 1 (off_own c).2.2.1 fullShare _) $$ [$]
  iintro %v Hs
  iapply (step_store_col c 1 (off_own c).2.2.1 _) $$ [$]
  iintro Hs
  iapply (runs_ret c)
  iapply Hk
  iframe HgR HgL HwR HwL HO
  iexists _
  isplitr; · ipureintro; exact put_ok m ρ c f
  iexact Hs

/-- Part 6 sends them to the right neighbour, -/
theorem part6 (c : Dev nD) (v2 : BitVec 32) (f : FVec F S1024x8 .f32) (hf : sOK m ρ c f) {Kt : (Σ' (v200 : BitVec 32), BitVec 32) → sProp 𝕄} :
    iprop(env m ρ K ∗ sPts c c (lent 0) f ∗ (∃ f, sPts (sh c 1) c fullShare f) ∗ sTok c 24 (sh c 1) 27 ∗ ow c 7)
      ⊢ iprop((∀ v w, (wTok c 24 ∗ ow c 8) -∗ Kt ⟨v, w⟩)
        -∗ runs c (k0_part6 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c v2) Kt) := by
  rw [k0_part6_eq_skeleton]; unfold k0_part6_skel
  simp only [Prog.lift, Prog.bind_op, Prog.bind_ret, Prog.pure_eq_ret]
  iintro ⟨#HE, Hs, Hd, Ht, HO⟩ Hk
  iapply (step_send_s m ρ K c (sh c 1) _ (Fin.ext (dev_stat c).1) _ _ 24 27 _ _ rfl rfl _ _ (off_own c).2.2.2 (lent 0)
    rfl (pay_stat m ρ c).1 rfl rfl 7 rfl f hf) $$ [$]
  iintro ⟨Hw, HO⟩
  iapply (runs_ret c)
  ihave Hk := Hk $$ %_ %_
  iapply Hk
  iframe

/-- and part 7 to the other two. -/
theorem part7 (c : Dev nD) (v2 v200 w : BitVec 32) (f : FVec F S1024x8 .f32) (hf : sOK m ρ c f)
    {Kt : (Σ' (v232 : BitVec 32) (v233 : BitVec 32) (v234 : BitVec 1), BitVec 32) → sProp 𝕄} :
    iprop(env m ρ K ∗ sPts c c (lent 1) f ∗ sPts c c (lent 2) f ∗ (∃ f, sPts (sh c 2) c fullShare f) ∗ (∃ f, sPts (sh c 3) c fullShare f)
        ∗ sTok c 25 (sh c 2) 28 ∗ sTok c 26 (sh c 3) 29 ∗ ow c 8)
      ⊢ iprop((∀ v232 v233 v234 w', (wTok c 25 ∗ wTok c 26 ∗ ow c 10) -∗ Kt ⟨v232, v233, v234, w'⟩)
        -∗ runs c (k0_part7 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c v2 v200 w) Kt) := by
  rw [k0_part7_eq_skeleton]; unfold k0_part7_skel
  simp only [Prog.lift, Prog.bind_op, Prog.bind_ret, Prog.pure_eq_ret]
  iintro ⟨#HE, Hs1, Hs2, Hd1, Hd2, Ht1, Ht2, HO⟩ Hk
  iapply (step_send_s m ρ K c (sh c 2) _ (Fin.ext (dev_stat c).2.1) _ _ 25 28 _ _ rfl rfl _ _ (off_own c).2.2.2 (lent 1)
    rfl (pay_stat m ρ c).2.1 rfl rfl 8 rfl f hf) $$ [$HE $Hs1 $Hd1 $Ht1 $HO]
  iintro ⟨Hw1, HO⟩
  iapply (step_send_s m ρ K c (sh c 3) _ (Fin.ext (dev_stat c).2.2) _ _ 26 29 _ _ rfl rfl _ _ (off_own c).2.2.2 (lent 2)
    rfl (pay_stat m ρ c).2.2 rfl rfl 9 rfl f hf) $$ [$HE $Hs2 $Hd2 $Ht2 $HO]
  iintro ⟨Hw2, HO⟩
  iapply (runs_ret c)
  ihave Hk := Hk $$ %_ %_ %_ %_
  iapply Hk
  iframe

/-- Part 8 only computes indices. -/
theorem part8 (c : Dev nD) (v2 v232 v233 : BitVec 32) (v234 : BitVec 1) (w : BitVec 32)
    {Kt : (Σ' (v253 : BitVec 32) (v266 : BitVec 32) (v269 : BitVec 32), BitVec 32) → sProp 𝕄} :
    iprop(∀ v253 v266 v269 w', Kt ⟨v253, v266, v269, w'⟩) ⊢ runs c (k0_part8 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 v2 v232 v233 v234 w) Kt := by
  rw [k0_part8_eq_skeleton]; unfold k0_part8_skel
  simp only [Prog.pure_eq_ret]
  iintro Hk
  iapply (runs_ret c)
  ihave Hk := Hk $$ %_ %_ %_ %_
  iexact Hk

/-- Part 9 waits for the other devices' statistics and reads all four blocks. -/
theorem part9 (c : Dev nD) (v253 v266 v269 w : BitVec 32)
    {Kt : (Σ' (v287 : Vec F S256x1 .f32) (v288 : Vec F S256x1 .f32) (v289 : Vec F S256x1 .f32) (v290 : Vec F S256x1 .f32) (v291 : Vec F S256x1 .f32) (v292 : Vec F S256x1 .f32) (v293 : Vec F S256x1 .f32) (v294 : Vec F S256x1 .f32), FVec F S256x1 .f32) → sProp 𝕄} :
    iprop(env m ρ K ∗ sOne m ρ c c ∗ wTok c 27 ∗ wTok c 28 ∗ wTok c 29 ∗ ow c 10)
      ⊢ iprop(((sOne m ρ c c ∗ sOne m ρ c (sh c 1) ∗ sOne m ρ c (sh c 2) ∗ sOne m ρ c (sh c 3) ∗ zer c 27 ∗ zer c 28 ∗ zer c 29 ∗ ow c 10)
          -∗ Kt ⟨col m ρ 0 (0 : Fin 4), col m ρ 0 (1 : Fin 4), col m ρ 0 (2 : Fin 4), col m ρ 0 (3 : Fin 4),
            col m ρ 1 (0 : Fin 4), col m ρ 1 (1 : Fin 4), col m ρ 1 (2 : Fin 4), col m ρ 1 (3 : Fin 4),
            k0_pay6 (col m ρ 0 (0 : Fin 4)) (col m ρ 0 (1 : Fin 4)) (col m ρ 0 (2 : Fin 4))⟩)
        -∗ runs c (k0_part9 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c v253 v266 v269 w) Kt) := by
  rw [k0_part9_eq_skeleton]; unfold k0_part9_skel
  simp only [Prog.lift, Prog.bind_op, Prog.bind_ret, Prog.pure_eq_ret]
  have h3 : pay m ρ c 27 = sOne m ρ c (sh c 3) := (sOne_other m ρ (sh_ne c).2.2).symm
  have h2 : pay m ρ c 28 = sOne m ρ c (sh c 2) := (sOne_other m ρ (sh_ne c).2.1).symm
  have h1 : pay m ρ c 29 = sOne m ρ c (sh c 1) := (sOne_other m ρ (sh_ne c).1).symm
  have ha := around (sOne m ρ c) c
  iintro ⟨#HE, S0, W3, W2, W1, HO⟩ Hk
  iapply (step_take m ρ K c 27 _ h3 10 (by decide) rfl (credit_s _ _)) $$ [$]
  iintro ⟨S3, Z3, HO⟩
  iapply (step_take m ρ K c 28 _ h2 10 (by decide) rfl (credit_s _ _)) $$ [$]
  iintro ⟨S2, Z2, HO⟩
  iapply (step_take m ρ K c 29 _ h1 10 (by decide) rfl (credit_s _ _)) $$ [$]
  iintro ⟨S1, Z1, HO⟩
  ihave Hs : iprop(sOne m ρ c c ∗ sOne m ρ c (sh c 1) ∗ sOne m ρ c (sh c 2) ∗ sOne m ρ c (sh c 3)) $$ [S0 S1 S2 S3]
  · iframe
  ihave Hs := (Entails.of_eq ha.symm) $$ Hs
  unfold sOne
  icases Hs with ⟨⟨%f0, %e0, S0⟩, ⟨%f1, %e1, S1⟩, ⟨%f2, %e2, S2⟩, ⟨%f3, %e3, S3⟩⟩
  iapply (step_load_s m ρ c (0 : Fin 4) 0 (by decide) _ f0 e0 (by rfl)) $$ [$]
  iintro S0
  iapply (step_load_s m ρ c (1 : Fin 4) 0 (by decide) _ f1 e1 (by rfl)) $$ [$]
  iintro S1
  iapply (step_load_s m ρ c (2 : Fin 4) 0 (by decide) _ f2 e2 (by rfl)) $$ [$]
  iintro S2
  iapply (step_load_s m ρ c (3 : Fin 4) 0 (by decide) _ f3 e3 (by rfl)) $$ [$]
  iintro S3
  iapply (step_load_s m ρ c (0 : Fin 4) 1 (by decide) _ f0 e0 (by rfl)) $$ [$]
  iintro S0
  iapply (step_load_s m ρ c (1 : Fin 4) 1 (by decide) _ f1 e1 (by rfl)) $$ [$]
  iintro S1
  iapply (step_load_s m ρ c (2 : Fin 4) 1 (by decide) _ f2 e2 (by rfl)) $$ [$]
  iintro S2
  iapply (step_load_s m ρ c (3 : Fin 4) 1 (by decide) _ f3 e3 (by rfl)) $$ [$]
  iintro S3
  iapply (runs_ret c)
  iapply Hk
  ihave Hs : iprop(sOne m ρ c (0 : Fin 4) ∗ sOne m ρ c (1 : Fin 4) ∗ sOne m ρ c (2 : Fin 4) ∗ sOne m ρ c (3 : Fin 4)) $$ [S0 S1 S2 S3]
  · unfold sOne
    isplitl [S0]; · iexists f0; isplitr; · ipureintro; exact e0
                    iexact S0
    isplitl [S1]; · iexists f1; isplitr; · ipureintro; exact e1
                    iexact S1
    isplitl [S2]; · iexists f2; isplitr; · ipureintro; exact e2
                    iexact S2
    iexists f3; isplitr; · ipureintro; exact e3
    iexact S3
  ihave Hs := (Entails.of_eq ha) $$ Hs
  icases Hs with ⟨S0, S1, S2, S3⟩
  unfold sOne
  iframe

end Cert.KernelIdealProof

end
-- ==== Proof.PartsBIdeal.lean ====
module

public import proofs.«01_k».proof.Proof.PartsAIdeal

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 31 → ℕ)

set_option maxRecDepth 65536

/-! # The exponentials and the later hops -/

/-- Part 10 exponentiates the device's own block. -/
theorem part10 (c : Dev nD) (v2 v86 v97 : BitVec 32) (D : Finset S256x16384.Idx)
    {Kt : (Σ' (v316 : FVec F S256x1 .f32) (v340 : BitVec 32) (c4_i32_219 : BitVec 32), BitVec 1) → sProp 𝕄} :
    iprop(gPts m ρ c c 0 fullShare.right ∗ gPts m ρ c c 1 fullShare.right ∗ gPts m ρ c c 2 fullShare.right ∗ gPts m ρ c c 3 fullShare.right ∗ ob m ρ c D)
      ⊢ iprop((∀ v340 c4 v341, (gPts m ρ c c 0 fullShare.right ∗ gPts m ρ c c 1 fullShare.right ∗ gPts m ρ c c 2 fullShare.right ∗ gPts m ρ c c 3 fullShare.right
          ∗ ob m ρ c (D ∪ orows 0 128 c ∪ orows 128 128 c)) -∗ Kt ⟨Cfin m ρ, v340, c4, v341⟩)
        -∗ runs c (k0_part10 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c v2 v86 v97 (col m ρ 0 0) (col m ρ 0 1) (col m ρ 0 2) (col m ρ 0 3) (col m ρ 1 0) (col m ρ 1 1) (col m ρ 1 2) (col m ρ 1 3)
          (k0_pay6 (col m ρ 0 0) (col m ρ 0 1) (col m ρ 0 2))) Kt) := by
  rw [k0_part10_eq_skeleton]; unfold k0_part10_skel
  simp only [Prog.lift, Prog.bind_op, Prog.bind_ret, Prog.pure_eq_ret]
  iintro ⟨G0, G1, G2, G3, HB⟩ Hk
  iapply (step_load_128 m ρ c c 0 fullShare.right (off_top c).1) $$ [$]
  iintro ⟨G0, G1⟩
  iapply (step_load_o m ρ c D) $$ [$]
  iintro %v HB
  iapply (step_store_o m ρ c D c 128 0 (off_top c).2.2.2.1 _ (off_top c).1 slices_S256x1_o0_0_S128x1 broadcasts_S128x1_S128x4096 rfl) $$ [$]
  iintro HB
  iapply (step_load_128 m ρ c c 2 fullShare.right (off_bot c).1) $$ [$]
  iintro ⟨G2, G3⟩
  iapply (step_load_o m ρ c _) $$ [$]
  iintro %v HB
  iapply (step_store_o m ρ c _ c 128 128 (off_bot c).2.2.2.1 _ (off_bot c).1 slices_S256x1_o128_0_S128x1 broadcasts_S128x1_S128x4096 rfl) $$ [$]
  iintro HB
  iapply (runs_ret c)
  ihave Hk := Hk $$ %_ %_ %_
  unfold Cfin
  iapply Hk
  iframe

/-- Part 11 waits for the first quarters from both sides, -/
theorem part11 (c : Dev nD) (v2 v13 v24 v340 c4 : BitVec 32) (v341 : BitVec 1)
    {Kt : (Σ' (v350 : BitVec 32) (v361 : BitVec 32) (v374 : BitVec 32), BitVec 32) → sProp 𝕄} :
    iprop(env m ρ K ∗ wTok c 6 ∗ wTok c 18 ∗ ow c 10)
      ⊢ iprop((∀ v350 v361 v374 w, (gPts m ρ c (sh c 3) 0 fullShare ∗ gPts m ρ c (sh c 1) 2 fullShare ∗ zer c 6 ∗ zer c 18 ∗ ow c 10) -∗ Kt ⟨v350, v361, v374, w⟩)
        -∗ runs c (k0_part11 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c v2 v13 v24 v340 c4 v341) Kt) := by
  rw [k0_part11_eq_skeleton]; unfold k0_part11_skel
  simp only [Prog.lift, Prog.bind_op, Prog.bind_ret, Prog.pure_eq_ret]
  iintro ⟨#HE, W1, W2, HO⟩ Hk
  iapply (step_take m ρ K c 6 _ (P := gPts m ρ c (sh c 3) 0 fullShare) rfl 10 (by decide) rfl (credit_g _ _)) $$ [$]
  iintro ⟨G1, Z1, HO⟩
  iapply (step_take m ρ K c 18 _ (P := gPts m ρ c (sh c 1) 2 fullShare) rfl 10 (by decide) rfl (credit_g _ _)) $$ [$]
  iintro ⟨G2, Z2, HO⟩
  iapply (runs_ret c)
  ihave Hk := Hk $$ %_ %_ %_ %_
  iapply Hk
  iframe

/-- part 12 passes them on and waits for the second quarter from the left, -/
theorem part12 (c : Dev nD) (v13 v24 v350 v361 v374 w : BitVec 32) {Kt : PUnit → sProp 𝕄} :
    iprop(env m ρ K ∗ gPts m ρ c (sh c 3) 0 fullShare ∗ gPts m ρ c (sh c 1) 2 fullShare ∗ jPts (sh c 1) (sh c 3) 0 ∗ jPts (sh c 3) (sh c 1) 2
        ∗ sTok c 2 (sh c 1) 8 ∗ sTok c 14 (sh c 3) 20 ∗ wTok c 7 ∗ ow c 10)
      ⊢ iprop(((gPts m ρ c (sh c 3) 0 fullShare.right ∗ gPts m ρ c (sh c 1) 2 fullShare.right ∗ wTok c 2 ∗ wTok c 14
          ∗ gPts m ρ c (sh c 3) 1 fullShare ∗ zer c 7 ∗ ow c 12) -∗ Kt ⟨⟩)
        -∗ runs c (k0_part12 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c v13 v24 v350 v361 v374 w) Kt) := by
  rw [k0_part12_eq_skeleton]; unfold k0_part12_skel
  simp only [Prog.lift, Prog.bind_op, Prog.bind_ret, Prog.pure_eq_ret]
  iintro ⟨#HE, GB, GA, JR, JL, TR, TL, W1, HO⟩ Hk
  iapply (step_send_g m ρ K c (sh c 1) _ (Fin.ext (dev_right c).2.2.1) _ _ 2 8 _ _ rfl rfl _ _ (sh c 3) 0 (off_right c).2.2.1
    rfl (pay_right m ρ c).2.2.2.1 rfl rfl 10 rfl) $$ [$]
  iintro ⟨GB, WR, HO⟩
  iapply (step_send_g m ρ K c (sh c 3) _ (Fin.ext (dev_left c).2.2.1) _ _ 14 20 _ _ rfl rfl _ _ (sh c 1) 2 (off_left c).2.2.1
    rfl (pay_left m ρ c).2.2.2.1 rfl rfl 11 rfl) $$ [$]
  iintro ⟨GA, WL, HO⟩
  iapply (step_take m ρ K c 7 _ (P := gPts m ρ c (sh c 3) 1 fullShare) rfl 12 (by decide) rfl (credit_g _ _)) $$ [$]
  iintro ⟨G1, Z1, HO⟩
  iapply (runs_ret c)
  iapply Hk
  iframe

/-- part 13 waits for the second quarter from the right and passes the other on to the right, -/
theorem part13 (c : Dev nD) (v13 v24 v350 v361 : BitVec 32) {Kt : PUnit → sProp 𝕄} :
    iprop(env m ρ K ∗ wTok c 19 ∗ gPts m ρ c (sh c 3) 1 fullShare ∗ jPts (sh c 1) (sh c 3) 1 ∗ sTok c 3 (sh c 1) 9 ∗ ow c 12)
      ⊢ iprop(((gPts m ρ c (sh c 1) 3 fullShare ∗ zer c 19 ∗ gPts m ρ c (sh c 3) 1 fullShare.right ∗ wTok c 3 ∗ ow c 13) -∗ Kt ⟨⟩)
        -∗ runs c (k0_part13 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c v13 v24 v350 v361) Kt) := by
  rw [k0_part13_eq_skeleton]; unfold k0_part13_skel
  simp only [Prog.lift, Prog.bind_op, Prog.bind_ret, Prog.pure_eq_ret]
  iintro ⟨#HE, W1, GB, JR, TR, HO⟩ Hk
  iapply (step_take m ρ K c 19 _ (P := gPts m ρ c (sh c 1) 3 fullShare) rfl 12 (by decide) rfl (credit_g _ _)) $$ [$HE $W1 $HO]
  iintro ⟨G1, Z1, HO⟩
  iapply (step_send_g m ρ K c (sh c 1) _ (Fin.ext (dev_right c).2.2.2.1) _ _ 3 9 _ _ rfl rfl _ _ (sh c 3) 1 (off_right c).2.2.2.1
    rfl (pay_right m ρ c).2.2.2.2.1 rfl rfl 12 rfl) $$ [$]
  iintro ⟨GB, WR, HO⟩
  iapply (runs_ret c)
  iapply Hk
  iframe

/-- part 14 passes it on to the left and exponentiates the halves that have come from both sides. -/
theorem part14 (c : Dev nD) (v2 v350 v361 : BitVec 32) (D : Finset S256x16384.Idx)
    {Kt : (Σ' (v471 : BitVec 32) (v472 : BitVec 32) (c4_i32_317 : BitVec 32), BitVec 1) → sProp 𝕄} :
    iprop(env m ρ K ∗ gPts m ρ c (sh c 1) 3 fullShare ∗ jPts (sh c 3) (sh c 1) 3 ∗ sTok c 15 (sh c 3) 21 ∗ ow c 13
        ∗ gPts m ρ c (sh c 3) 0 fullShare.right ∗ gPts m ρ c (sh c 3) 1 fullShare.right ∗ gPts m ρ c (sh c 1) 2 fullShare.right ∗ ob m ρ c D)
      ⊢ iprop((∀ v471 v472 c4 v473, (gPts m ρ c (sh c 1) 3 fullShare.right ∗ wTok c 15 ∗ ow c 14
          ∗ gPts m ρ c (sh c 3) 0 fullShare.right ∗ gPts m ρ c (sh c 3) 1 fullShare.right ∗ gPts m ρ c (sh c 1) 2 fullShare.right
          ∗ ob m ρ c (D ∪ orows 0 128 (sh c 3) ∪ orows 128 128 (sh c 1))) -∗ Kt ⟨v471, v472, c4, v473⟩)
        -∗ runs c (k0_part14 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c v2 (Cfin m ρ) v350 v361) Kt) := by
  rw [k0_part14_eq_skeleton]; unfold k0_part14_skel
  simp only [Prog.lift, Prog.bind_op, Prog.bind_ret, Prog.pure_eq_ret]
  iintro ⟨#HE, GA, JL, TL, HO, G0, G1, G2, HB⟩ Hk
  iapply (step_send_g m ρ K c (sh c 3) _ (Fin.ext (dev_left c).2.2.2.1) _ _ 15 21 _ _ rfl rfl _ _ (sh c 1) 3 (off_left c).2.2.2.1
    rfl (pay_left m ρ c).2.2.2.2.1 rfl rfl 13 rfl) $$ [$]
  iintro ⟨G3, WL, HO⟩
  iapply (step_load_128 m ρ c (sh c 3) 0 fullShare.right (off_top c).2.1) $$ [$]
  iintro ⟨G0, G1⟩
  iapply (step_load_o m ρ c D) $$ [$]
  iintro %v HB
  iapply (step_store_o m ρ c D (sh c 3) 128 0 (off_top c).2.2.2.2.1 _ (off_top c).2.1 slices_S256x1_o0_0_S128x1 broadcasts_S128x1_S128x4096 rfl) $$ [$]
  iintro HB
  iapply (step_load_128 m ρ c (sh c 1) 2 fullShare.right (off_bot c).2.1) $$ [$]
  iintro ⟨G2, G3⟩
  iapply (step_load_o m ρ c _) $$ [$]
  iintro %v HB
  iapply (step_store_o m ρ c _ (sh c 1) 128 128 (off_bot c).2.2.2.2.1 _ (off_bot c).2.1 slices_S256x1_o128_0_S128x1 broadcasts_S128x1_S128x4096 rfl) $$ [$]
  iintro HB
  iapply (runs_ret c)
  ihave Hk := Hk $$ %_ %_ %_ %_
  iapply Hk
  iframe

/-- Part 15 waits for the first quarters of the opposite device, -/
theorem part15 (c : Dev nD) (v13 v24 v471 v472 c4 : BitVec 32) (v473 : BitVec 1) {Kt : BitVec 32 → sProp 𝕄} :
    iprop(env m ρ K ∗ wTok c 8 ∗ wTok c 20 ∗ ow c 14)
      ⊢ iprop((∀ v482, (gPts m ρ c (sh c 2) 0 fullShare ∗ gPts m ρ c (sh c 2) 2 fullShare ∗ zer c 8 ∗ zer c 20 ∗ ow c 14) -∗ Kt v482)
        -∗ runs c (k0_part15 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c v13 v24 v471 v472 c4 v473) Kt) := by
  rw [k0_part15_eq_skeleton]; unfold k0_part15_skel
  simp only [Prog.lift, Prog.bind_op, Prog.bind_ret, Prog.pure_eq_ret]
  iintro ⟨#HE, W1, W2, HO⟩ Hk
  iapply (step_take m ρ K c 8 _ (P := gPts m ρ c (sh c 2) 0 fullShare) rfl 14 (by decide) rfl (credit_g _ _)) $$ [$]
  iintro ⟨G1, Z1, HO⟩
  iapply (step_take m ρ K c 20 _ (P := gPts m ρ c (sh c 2) 2 fullShare) rfl 14 (by decide) rfl (credit_g _ _)) $$ [$]
  iintro ⟨G2, Z2, HO⟩
  iapply (runs_ret c)
  ihave Hk := Hk $$ %_
  iapply Hk
  iframe

/-- part 16 passes them on and waits for the second ones, -/
theorem part16 (c : Dev nD) (v13 v24 v471 : BitVec 32) {Kt : BitVec 32 → sProp 𝕄} :
    iprop(env m ρ K ∗ gPts m ρ c (sh c 2) 0 fullShare ∗ gPts m ρ c (sh c 2) 2 fullShare ∗ jPts (sh c 1) (sh c 2) 0 ∗ jPts (sh c 3) (sh c 2) 2
        ∗ sTok c 4 (sh c 1) 10 ∗ sTok c 16 (sh c 3) 22 ∗ wTok c 9 ∗ wTok c 21 ∗ ow c 14)
      ⊢ iprop((∀ w, (gPts m ρ c (sh c 2) 0 fullShare.right ∗ gPts m ρ c (sh c 2) 2 fullShare.right ∗ wTok c 4 ∗ wTok c 16
          ∗ gPts m ρ c (sh c 2) 1 fullShare ∗ gPts m ρ c (sh c 2) 3 fullShare ∗ zer c 9 ∗ zer c 21 ∗ ow c 16) -∗ Kt w)
        -∗ runs c (k0_part16 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c v13 v24 v471) Kt) := by
  rw [k0_part16_eq_skeleton]; unfold k0_part16_skel
  simp only [Prog.lift, Prog.bind_op, Prog.bind_ret, Prog.pure_eq_ret]
  iintro ⟨#HE, GB, GA, JR, JL, TR, TL, W1, W2, HO⟩ Hk
  iapply (step_send_g m ρ K c (sh c 1) _ (Fin.ext (dev_right c).2.2.2.2.1) _ _ 4 10 _ _ rfl rfl _ _ (sh c 2) 0 (off_right c).2.2.2.2.1
    rfl (pay_right m ρ c).2.2.2.2.2.1 rfl rfl 14 rfl) $$ [$]
  iintro ⟨GB, WR, HO⟩
  iapply (step_send_g m ρ K c (sh c 3) _ (Fin.ext (dev_left c).2.2.2.2.1) _ _ 16 22 _ _ rfl rfl _ _ (sh c 2) 2 (off_left c).2.2.2.2.1
    rfl (pay_left m ρ c).2.2.2.2.2.1 rfl rfl 15 rfl) $$ [$]
  iintro ⟨GA, WL, HO⟩
  iapply (step_take m ρ K c 9 _ (P := gPts m ρ c (sh c 2) 1 fullShare) rfl 16 (by decide) rfl (credit_g _ _)) $$ [$]
  iintro ⟨G1, Z1, HO⟩
  iapply (step_take m ρ K c 21 _ (P := gPts m ρ c (sh c 2) 3 fullShare) rfl 16 (by decide) rfl (credit_g _ _)) $$ [$]
  iintro ⟨G3, Z2, HO⟩
  iapply (runs_ret c)
  ihave Hk := Hk $$ %_
  iapply Hk
  iframe

/-- The upper half of the opposite device's exponentials, as they are stored. -/
def wTop (c : Dev nD) : FVec F S128x4096 .f32 :=
  exp (subf (extf .f32 (gM.view.readAt (Elt F) (Rect.unit (s := S1024x4096) (k0_off8 c 2#32) ![128, 4096] (k0_off8_inb c 2)).toLoadRect (Gfin m ρ) : FVec F S128x4096 .bf16) bitsLt_bf16_f32)
    (broadcastTo S128x4096 (extractStridedSlice S128x1 ![0, 0] (Cfin m ρ) slices_S256x1_o0_0_S128x1) broadcasts_S128x1_S128x4096))

/-- part 17 passes those on and exponentiates the upper half, -/
theorem part17 (c : Dev nD) (v13 v24 v471 v482 w : BitVec 32) (D : Finset S256x16384.Idx) {Kt : FVec F S128x4096 .f32 → sProp 𝕄} :
    iprop(env m ρ K ∗ gPts m ρ c (sh c 2) 1 fullShare ∗ gPts m ρ c (sh c 2) 3 fullShare ∗ jPts (sh c 1) (sh c 2) 1 ∗ jPts (sh c 3) (sh c 2) 3
        ∗ sTok c 5 (sh c 1) 11 ∗ sTok c 17 (sh c 3) 23 ∗ gPts m ρ c (sh c 2) 0 fullShare.right ∗ ob m ρ c D ∗ ow c 16)
      ⊢ iprop(((gPts m ρ c (sh c 2) 1 fullShare.right ∗ gPts m ρ c (sh c 2) 3 fullShare.right ∗ wTok c 5 ∗ wTok c 17
          ∗ gPts m ρ c (sh c 2) 0 fullShare.right ∗ ob m ρ c D ∗ ow c 18) -∗ Kt (wTop m ρ c))
        -∗ runs c (k0_part17 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c v13 v24 (Cfin m ρ) v471 v482 w) Kt) := by
  rw [k0_part17_eq_skeleton]; unfold k0_part17_skel
  simp only [Prog.lift, Prog.bind_op, Prog.bind_ret, Prog.pure_eq_ret]
  iintro ⟨#HE, GB, GA, JR, JL, TR, TL, G0, HB, HO⟩ Hk
  iapply (step_send_g m ρ K c (sh c 1) _ (Fin.ext (dev_right c).2.2.2.2.2) _ _ 5 11 _ _ rfl rfl _ _ (sh c 2) 1 (off_right c).2.2.2.2.2
    rfl (pay_right m ρ c).2.2.2.2.2.2 rfl rfl 16 rfl) $$ [$]
  iintro ⟨GB, WR, HO⟩
  iapply (step_send_g m ρ K c (sh c 3) _ (Fin.ext (dev_left c).2.2.2.2.2) _ _ 17 23 _ _ rfl rfl _ _ (sh c 2) 3 (off_left c).2.2.2.2.2
    rfl (pay_left m ρ c).2.2.2.2.2.2 rfl rfl 17 rfl) $$ [$]
  iintro ⟨GA, WL, HO⟩
  iapply (step_load_128 m ρ c (sh c 2) 0 fullShare.right (off_top c).2.2.1) $$ [$]
  iintro ⟨G0, GB⟩
  iapply (step_load_o m ρ c D) $$ [$]
  iintro %v HB
  unfold k0_pay12
  iapply (runs_ret c)
  unfold wTop
  iapply Hk
  iframe

/-- part 18 stores it and exponentiates the lower half. -/
theorem part18 (c : Dev nD) (v2 v24 v482 : BitVec 32) (D : Finset S256x16384.Idx)
    {Kt : (Σ' (v592 : BitVec 32) (v603 : BitVec 32) (v604 : BitVec 32), BitVec 32) → sProp 𝕄} :
    iprop(gPts m ρ c (sh c 2) 2 fullShare.right ∗ gPts m ρ c (sh c 2) 3 fullShare.right ∗ ob m ρ c D)
      ⊢ iprop((∀ v592 v603 v604 w, (gPts m ρ c (sh c 2) 2 fullShare.right ∗ gPts m ρ c (sh c 2) 3 fullShare.right
          ∗ ob m ρ c (D ∪ orows 0 128 (sh c 2) ∪ orows 128 128 (sh c 2))) -∗ Kt ⟨v592, v603, v604, w⟩)
        -∗ runs c (k0_part18 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c v2 v24 (Cfin m ρ) v482 (wTop m ρ c)) Kt) := by
  rw [k0_part18_eq_skeleton]; unfold k0_part18_skel
  simp only [Prog.lift, Prog.bind_op, Prog.bind_ret, Prog.pure_eq_ret]
  iintro ⟨G2, G3, HB⟩ Hk
  iapply (step_store_o m ρ c D (sh c 2) 128 0 (off_top c).2.2.2.2.2 (k0_off8_inb c 2) (off_top c).2.2.1 slices_S256x1_o0_0_S128x1 broadcasts_S128x1_S128x4096 rfl) $$ [$]
  iintro HB
  iapply (step_load_128 m ρ c (sh c 2) 2 fullShare.right (off_bot c).2.2.1) $$ [$]
  iintro ⟨G2, G3⟩
  iapply (step_load_o m ρ c _) $$ [$]
  iintro %v HB
  iapply (step_store_o m ρ c _ (sh c 2) 128 128 (off_bot c).2.2.2.2.2 _ (off_bot c).2.2.1 slices_S256x1_o128_0_S128x1 broadcasts_S128x1_S128x4096 rfl) $$ [$]
  iintro HB
  iapply (runs_ret c)
  ihave Hk := Hk $$ %_ %_ %_ %_
  iapply Hk
  iframe

/-- Part 19 waits for the last first quarters and exponentiates each; -/
theorem part19 (c : Dev nD) (v13 v592 v603 v604 w : BitVec 32) (D : Finset S256x16384.Idx) {Kt : PUnit → sProp 𝕄} :
    iprop(env m ρ K ∗ wTok c 10 ∗ wTok c 22 ∗ ob m ρ c D ∗ ow c 18)
      ⊢ iprop(((gPts m ρ c (sh c 1) 0 fullShare ∗ gPts m ρ c (sh c 3) 2 fullShare ∗ zer c 10 ∗ zer c 22
          ∗ ob m ρ c (D ∪ orows 0 64 (sh c 1) ∪ orows 128 64 (sh c 3)) ∗ ow c 18) -∗ Kt ⟨⟩)
        -∗ runs c (k0_part19 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c v13 (Cfin m ρ) v592 v603 v604 w) Kt) := by
  rw [k0_part19_eq_skeleton]; unfold k0_part19_skel
  simp only [Prog.lift, Prog.bind_op, Prog.bind_ret, Prog.pure_eq_ret]
  iintro ⟨#HE, W1, W2, HB, HO⟩ Hk
  iapply (step_take m ρ K c 10 _ (P := gPts m ρ c (sh c 1) 0 fullShare) rfl 18 (by decide) rfl (credit_g _ _)) $$ [$]
  iintro ⟨G0, Z1, HO⟩
  iapply (step_load_64 m ρ c (sh c 1) 0 fullShare (off_last c).1) $$ [$]
  iintro G0
  iapply (step_load_o m ρ c D) $$ [$]
  iintro %v HB
  iapply (step_store_o m ρ c D (sh c 1) 64 0 (off_last c).2.2.2.2.1 _ (off_last c).1 slices_S256x1_o0_0_S64x1 broadcasts_S64x1_S64x4096 rfl) $$ [$]
  iintro HB
  iapply (step_take m ρ K c 22 _ (P := gPts m ρ c (sh c 3) 2 fullShare) rfl 18 (by decide) rfl (credit_g _ _)) $$ [$]
  iintro ⟨G2, Z2, HO⟩
  iapply (step_load_64 m ρ c (sh c 3) 2 fullShare (off_last c).2.2.1) $$ [$]
  iintro G2
  iapply (step_load_o m ρ c _) $$ [$]
  iintro %v HB
  iapply (step_store_o m ρ c _ (sh c 3) 64 128 (off_last c).2.2.2.2.2.2.1 _ (off_last c).2.2.1 slices_S256x1_o128_0_S64x1 broadcasts_S64x1_S64x4096 rfl) $$ [$]
  iintro HB
  iapply (runs_ret c)
  iapply Hk
  iframe

/-- The exponentials of the last quarter, as they are stored. -/
def wLast (c : Dev nD) : FVec F S64x4096 .f32 :=
  exp (subf (extf .f32 (gM.view.readAt (Elt F) (Rect.unit (s := S1024x4096) (k0_off14 c 64#32) ![64, 4096] (k0_off14_inb c 1)).toLoadRect (Gfin m ρ) : FVec F S64x4096 .bf16) bitsLt_bf16_f32)
    (broadcastTo S64x4096 (extractStridedSlice S64x1 ![192, 0] (Cfin m ρ) slices_S256x1_o192_0_S64x1) broadcasts_S64x1_S64x4096))

/-- part 20 does so with the last second quarters, -/
theorem part20 (c : Dev nD) (v13 v24 v592 v603 : BitVec 32) (D : Finset S256x16384.Idx) {Kt : (Σ' (v674 : FVec F S64x4096 .f32), BitVec 32) → sProp 𝕄} :
    iprop(env m ρ K ∗ wTok c 11 ∗ wTok c 23 ∗ ob m ρ c D ∗ ow c 18)
      ⊢ iprop((∀ w, (gPts m ρ c (sh c 1) 1 fullShare ∗ gPts m ρ c (sh c 3) 3 fullShare ∗ zer c 11 ∗ zer c 23
          ∗ ob m ρ c (D ∪ orows 64 64 (sh c 1)) ∗ ow c 18) -∗ Kt ⟨wLast m ρ c, w⟩)
        -∗ runs c (k0_part20 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c v13 v24 (Cfin m ρ) v592 v603) Kt) := by
  rw [k0_part20_eq_skeleton]; unfold k0_part20_skel
  simp only [Prog.lift, Prog.bind_op, Prog.bind_ret, Prog.pure_eq_ret]
  iintro ⟨#HE, W1, W2, HB, HO⟩ Hk
  iapply (step_take m ρ K c 11 _ (P := gPts m ρ c (sh c 1) 1 fullShare) rfl 18 (by decide) rfl (credit_g _ _)) $$ [$]
  iintro ⟨G0, Z1, HO⟩
  iapply (step_load_64 m ρ c (sh c 1) 1 fullShare (off_last c).2.1) $$ [$]
  iintro G0
  iapply (step_load_o m ρ c D) $$ [$]
  iintro %v HB
  iapply (step_store_o m ρ c D (sh c 1) 64 64 (off_last c).2.2.2.2.2.1 _ (off_last c).2.1 slices_S256x1_o64_0_S64x1 broadcasts_S64x1_S64x4096 rfl) $$ [$]
  iintro HB
  iapply (step_take m ρ K c 23 _ (P := gPts m ρ c (sh c 3) 3 fullShare) rfl 18 (by decide) rfl (credit_g _ _)) $$ [$]
  iintro ⟨G2, Z2, HO⟩
  iapply (step_load_64 m ρ c (sh c 3) 3 fullShare (off_last c).2.2.2.1) $$ [$]
  iintro G2
  unfold k0_pay17
  iapply (runs_ret c)
  ihave Hk := Hk $$ %_
  unfold wLast
  iapply Hk
  iframe

/-- part 21 stores it and waits for the first five sends, -/
theorem part21 (c : Dev nD) (w : BitVec 32) (D : Finset S256x16384.Idx) {Kt : PUnit → sProp 𝕄} :
    iprop(env m ρ K ∗ ob m ρ c D ∗ wTok c 0 ∗ wTok c 12 ∗ wTok c 1 ∗ wTok c 13 ∗ wTok c 2 ∗ ow c 18)
      ⊢ iprop(((ob m ρ c (D ∪ orows 192 64 (sh c 3)) ∗ gPts m ρ c c 0 fullShare.left ∗ gPts m ρ c c 2 fullShare.left ∗ gPts m ρ c c 1 fullShare.left
          ∗ gPts m ρ c c 3 fullShare.left ∗ gPts m ρ c (sh c 3) 0 fullShare.left ∗ zer c 0 ∗ zer c 12 ∗ zer c 1 ∗ zer c 13 ∗ zer c 2 ∗ ow c 18) -∗ Kt ⟨⟩)
        -∗ runs c (k0_part21 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c (wLast m ρ c) w) Kt) := by
  rw [k0_part21_eq_skeleton]; unfold k0_part21_skel
  simp only [Prog.lift, Prog.bind_op, Prog.bind_ret, Prog.pure_eq_ret]
  iintro ⟨#HE, HB, W1, W2, W3, W4, W5, HO⟩ Hk
  iapply (step_load_o m ρ c D) $$ [$]
  iintro %v HB
  iapply (step_store_o m ρ c D (sh c 3) 64 192 (off_last c).2.2.2.2.2.2.2 (k0_off14_inb c 1) (off_last c).2.2.2.1 slices_S256x1_o192_0_S64x1 broadcasts_S64x1_S64x4096 rfl) $$ [$]
  iintro HB
  iapply (step_take m ρ K c 0 _ (pay_right m ρ c).1.1 18 (by decide) rfl (credit_g _ _)) $$ [$]
  iintro ⟨G1, Z1, HO⟩
  iapply (step_take m ρ K c 12 _ (pay_left m ρ c).1.1 18 (by decide) rfl (credit_g _ _)) $$ [$]
  iintro ⟨G2, Z2, HO⟩
  iapply (step_take m ρ K c 1 _ (pay_right m ρ c).1.2 18 (by decide) rfl (credit_g _ _)) $$ [$]
  iintro ⟨G3, Z3, HO⟩
  iapply (step_take m ρ K c 13 _ (pay_left m ρ c).1.2 18 (by decide) rfl (credit_g _ _)) $$ [$]
  iintro ⟨G4, Z4, HO⟩
  iapply (step_take m ρ K c 2 _ (P := gPts m ρ c (sh c 3) 0 fullShare.left) rfl 18 (by decide) rfl (credit_g _ _)) $$ [$]
  iintro ⟨G5, Z5, HO⟩
  iapply (runs_ret c)
  iapply Hk
  iframe

/-- and part 22 for the next six. -/
theorem part22 (c : Dev nD) {Kt : PUnit → sProp 𝕄} :
    iprop(env m ρ K ∗ wTok c 14 ∗ wTok c 3 ∗ wTok c 15 ∗ wTok c 4 ∗ wTok c 16 ∗ wTok c 5 ∗ ow c 18)
      ⊢ iprop(((gPts m ρ c (sh c 1) 2 fullShare.left ∗ gPts m ρ c (sh c 3) 1 fullShare.left ∗ gPts m ρ c (sh c 1) 3 fullShare.left
          ∗ gPts m ρ c (sh c 2) 0 fullShare.left ∗ gPts m ρ c (sh c 2) 2 fullShare.left ∗ gPts m ρ c (sh c 2) 1 fullShare.left
          ∗ zer c 14 ∗ zer c 3 ∗ zer c 15 ∗ zer c 4 ∗ zer c 16 ∗ zer c 5 ∗ ow c 18) -∗ Kt ⟨⟩)
        -∗ runs c (k0_part22 xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7 c) Kt) := by
  rw [k0_part22_eq_skeleton]; unfold k0_part22_skel
  simp only [Prog.lift, Prog.bind_op, Prog.bind_ret, Prog.pure_eq_ret]
  iintro ⟨#HE, W1, W2, W3, W4, W5, W6, HO⟩ Hk
  iapply (step_take m ρ K c 14 _ (P := gPts m ρ c (sh c 1) 2 fullShare.left) rfl 18 (by decide) rfl (credit_g _ _)) $$ [$]
  iintro ⟨G1, Z1, HO⟩
  iapply (step_take m ρ K c 3 _ (P := gPts m ρ c (sh c 3) 1 fullShare.left) rfl 18 (by decide) rfl (credit_g _ _)) $$ [$]
  iintro ⟨G2, Z2, HO⟩
  iapply (step_take m ρ K c 15 _ (P := gPts m ρ c (sh c 1) 3 fullShare.left) rfl 18 (by decide) rfl (credit_g _ _)) $$ [$]
  iintro ⟨G3, Z3, HO⟩
  iapply (step_take m ρ K c 4 _ (P := gPts m ρ c (sh c 2) 0 fullShare.left) rfl 18 (by decide) rfl (credit_g _ _)) $$ [$]
  iintro ⟨G4, Z4, HO⟩
  iapply (step_take m ρ K c 16 _ (P := gPts m ρ c (sh c 2) 2 fullShare.left) rfl 18 (by decide) rfl (credit_g _ _)) $$ [$]
  iintro ⟨G5, Z5, HO⟩
  iapply (step_take m ρ K c 5 _ (P := gPts m ρ c (sh c 2) 1 fullShare.left) rfl 18 (by decide) rfl (credit_g _ _)) $$ [$]
  iintro ⟨G6, Z6, HO⟩
  iapply (runs_ret c)
  iapply Hk
  iframe

end Cert.KernelIdealProof

end
-- ==== Proof.BodyIdeal.lean ====
module

public import proofs.«01_k».proof.Proof.PartsBIdeal

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! # The whole kernel on one device -/

/-- What device `c` needs to start its fifteen copies; -/
def sends (c : Dev nD) : sProp 𝕄 :=
  iprop(sTok c 0 (sh c 1) 6 ∗ sTok c 1 (sh c 1) 7 ∗ sTok c 2 (sh c 1) 8 ∗ sTok c 3 (sh c 1) 9 ∗ sTok c 4 (sh c 1) 10 ∗ sTok c 5 (sh c 1) 11
    ∗ sTok c 12 (sh c 3) 18 ∗ sTok c 13 (sh c 3) 19 ∗ sTok c 14 (sh c 3) 20 ∗ sTok c 15 (sh c 3) 21 ∗ sTok c 16 (sh c 3) 22 ∗ sTok c 17 (sh c 3) 23
    ∗ sTok c 24 (sh c 1) 27 ∗ sTok c 25 (sh c 2) 28 ∗ sTok c 26 (sh c 3) 29)
/-- to wait for the fifteen that come to it; -/
def recvs (c : Dev nD) : sProp 𝕄 :=
  iprop(wTok c 6 ∗ wTok c 7 ∗ wTok c 8 ∗ wTok c 9 ∗ wTok c 10 ∗ wTok c 11 ∗ wTok c 18 ∗ wTok c 19 ∗ wTok c 20 ∗ wTok c 21 ∗ wTok c 22 ∗ wTok c 23
    ∗ wTok c 27 ∗ wTok c 28 ∗ wTok c 29)
/-- and to take part in the barrier. -/
def bars (c : Dev nD) : sProp 𝕄 :=
  iprop(dutyTok ER (barCell (sh c 1)) 0 0 ∗ dutyTok ER (barCell (sh c 2)) 0 1 ∗ dutyTok ER (barCell (sh c 3)) 0 2
    ∗ cred (tallyAt (barCell c) () 3) ∗ atPos ER (barCell c) 0 ∅ 0)
/-- Its own semaphores at zero. -/
def zeros (c : Dev nD) : sProp 𝕄 :=
  iprop(zer c 0 ∗ zer c 1 ∗ zer c 2 ∗ zer c 3 ∗ zer c 4 ∗ zer c 5 ∗ zer c 6 ∗ zer c 7 ∗ zer c 8 ∗ zer c 9 ∗ zer c 10 ∗ zer c 11 ∗ zer c 12 ∗ zer c 13 ∗ zer c 14
    ∗ zer c 15 ∗ zer c 16 ∗ zer c 17 ∗ zer c 18 ∗ zer c 19 ∗ zer c 20 ∗ zer c 21 ∗ zer c 22 ∗ zer c 23 ∗ zer c 24 ∗ zer c 25 ∗ zer c 26 ∗ zer c 27 ∗ zer c 28 ∗ zer c 29)
/-- The two scratch buffers, holding anything. -/
def scr (c : Dev nD) : sProp 𝕄 :=
  iprop((∃ f : Buf (Elt F) (gloc c), gloc c ↦{fullShare} f) ∗ (∃ f : Buf (Elt F) (sloc c), sloc c ↦{fullShare} f))

theorem bar_got (c : Dev nD) : barPay (F := F) c 0 = iprop((∃ f, sPts (sh c 3) c fullShare f) ∗ jPts (sh c 3) c 2 ∗ jPts (sh c 3) c 3 ∗ jPts (sh c 3) (sh c 1) 2 ∗ jPts (sh c 3) (sh c 1) 3
      ∗ jPts (sh c 3) (sh c 2) 2 ∗ jPts (sh c 3) (sh c 2) 3)
    ∧ barPay (F := F) c 1 = iprop(∃ f, sPts (sh c 2) c fullShare f)
    ∧ barPay (F := F) c 2 = iprop((∃ f, sPts (sh c 1) c fullShare f) ∗ jPts (sh c 1) c 0 ∗ jPts (sh c 1) c 1 ∗ jPts (sh c 1) (sh c 3) 0 ∗ jPts (sh c 1) (sh c 3) 1
      ∗ jPts (sh c 1) (sh c 2) 0 ∗ jPts (sh c 1) (sh c 2) 1) := ⟨rfl, rfl, rfl⟩

/-- What the two scratch buffers give to the three barriers, and what the device keeps. -/
theorem scr_deal (c : Dev nD) : scr (F := F) c ⊢ iprop(jBlk c c ∗ sBlk c c ∗ barPay (sh c 1) 0 ∗ barPay (sh c 2) 1 ∗ barPay (sh c 3) 2) := by
  unfold scr
  rw [bar_right, bar_across, bar_left]
  iintro ⟨HG, HS⟩
  ihave HG := (scratch0_blocks c).1 $$ HG
  icases HG with ⟨B0, B1, B2, B3⟩
  ihave B1 := (blk_quarters c (sh c 1)).1 $$ B1
  ihave B2 := (blk_quarters c (sh c 2)).1 $$ B2
  ihave B3 := (blk_quarters c (sh c 3)).1 $$ B3
  icases B1 with ⟨B10, B11, B12, B13⟩
  icases B2 with ⟨B20, B21, B22, B23⟩
  icases B3 with ⟨B30, B31, B32, B33⟩
  ihave HS := (scratch1_blocks c).1 $$ HS
  unfold sBlk
  icases HS with ⟨S0, S1, S2, S3⟩
  iframe

/-- What the device holds of its gathered logits at the end: whole quarters, and halves of shares of what it sent. -/
def gEnd (c : Dev nD) : sProp 𝕄 :=
  iprop((gPts m ρ c c 0 fullShare.left ∗ gPts m ρ c c 0 fullShare.right) ∗ (gPts m ρ c c 1 fullShare.left ∗ gPts m ρ c c 1 fullShare.right)
    ∗ (gPts m ρ c c 2 fullShare.left ∗ gPts m ρ c c 2 fullShare.right) ∗ (gPts m ρ c c 3 fullShare.left ∗ gPts m ρ c c 3 fullShare.right)
    ∗ gPts m ρ c (sh c 1) 0 fullShare ∗ gPts m ρ c (sh c 1) 1 fullShare
    ∗ (gPts m ρ c (sh c 1) 2 fullShare.left ∗ gPts m ρ c (sh c 1) 2 fullShare.right) ∗ (gPts m ρ c (sh c 1) 3 fullShare.left ∗ gPts m ρ c (sh c 1) 3 fullShare.right)
    ∗ (gPts m ρ c (sh c 2) 0 fullShare.left ∗ gPts m ρ c (sh c 2) 0 fullShare.right) ∗ (gPts m ρ c (sh c 2) 1 fullShare.left ∗ gPts m ρ c (sh c 2) 1 fullShare.right)
    ∗ (gPts m ρ c (sh c 2) 2 fullShare.left ∗ gPts m ρ c (sh c 2) 2 fullShare.right) ∗ (gPts m ρ c (sh c 2) 3 fullShare.left ∗ gPts m ρ c (sh c 2) 3 fullShare.right)
    ∗ (gPts m ρ c (sh c 3) 0 fullShare.left ∗ gPts m ρ c (sh c 3) 0 fullShare.right) ∗ (gPts m ρ c (sh c 3) 1 fullShare.left ∗ gPts m ρ c (sh c 3) 1 fullShare.right)
    ∗ gPts m ρ c (sh c 3) 2 fullShare ∗ gPts m ρ c (sh c 3) 3 fullShare)

/-- They are the whole buffer again. -/
theorem g_end (c : Dev nD) : gEnd m ρ c ⊢ iprop(∃ f : Buf (Elt F) (gloc c), gloc c ↦{fullShare} f) := by
  unfold gEnd
  iintro ⟨G00, G01, G02, G03, G10, G11, G12, G13, G20, G21, G22, G23, G30, G31, G32, G33⟩
  iapply (scratch0_blocks c).2
  isplitl [G00 G01 G02 G03]
  · iapply (blk_quarters c c).2
    isplitl [G00]; · iapply (g_join m ρ c c 0); iexact G00
    isplitl [G01]; · iapply (g_join m ρ c c 1); iexact G01
    isplitl [G02]; · iapply (g_join m ρ c c 2); iexact G02
    iapply (g_join m ρ c c 3); iexact G03
  isplitl [G10 G11 G12 G13]
  · iapply (blk_quarters c (sh c 1)).2
    isplitl [G10]; · iapply (g_forget m ρ c (sh c 1) 0); iexact G10
    isplitl [G11]; · iapply (g_forget m ρ c (sh c 1) 1); iexact G11
    isplitl [G12]; · iapply (g_join m ρ c (sh c 1) 2); iexact G12
    iapply (g_join m ρ c (sh c 1) 3); iexact G13
  isplitl [G20 G21 G22 G23]
  · iapply (blk_quarters c (sh c 2)).2
    isplitl [G20]; · iapply (g_join m ρ c (sh c 2) 0); iexact G20
    isplitl [G21]; · iapply (g_join m ρ c (sh c 2) 1); iexact G21
    isplitl [G22]; · iapply (g_join m ρ c (sh c 2) 2); iexact G22
    iapply (g_join m ρ c (sh c 2) 3); iexact G23
  iapply (blk_quarters c (sh c 3)).2
  isplitl [G30]; · iapply (g_join m ρ c (sh c 3) 0); iexact G30
  isplitl [G31]; · iapply (g_join m ρ c (sh c 3) 1); iexact G31
  isplitl [G32]; · iapply (g_forget m ρ c (sh c 3) 2); iexact G32
  iapply (g_forget m ρ c (sh c 3) 3); iexact G33

/-- A block of another device's statistics is a block. -/
theorem s_forget {c b : Dev nD} (h : b ≠ c) : sOne m ρ c b ⊢ sBlk c b := by
  rw [sOne_other m ρ h]; unfold sBlk
  iintro ⟨%f, -, H⟩
  iexists f; iexact H

/-- The statistics are the whole buffer again. -/
theorem s_end (c : Dev nD) :
    iprop(((∃ f, sPts c c (lent 0) f) ∗ (∃ f, sPts c c (lent 1) f) ∗ (∃ f, sPts c c (lent 2) f)) ∗ sOne m ρ c c ∗ sOne m ρ c (sh c 1) ∗ sOne m ρ c (sh c 2) ∗ sOne m ρ c (sh c 3))
      ⊢ iprop(∃ f : Buf (Elt F) (sloc c), sloc c ↦{fullShare} f) := by
  rw [sOne_self]
  iintro ⟨⟨H0, H1, H2⟩, ⟨%f, -, HK⟩, S1, S2, S3⟩
  iapply (scratch1_blocks c).2
  isplitl [H0 H1 H2 HK]
  · iapply (s_back c)
    iframe
    iexists f; iexact HK
  isplitl [S1]; · iapply (s_forget m ρ (sh_ne c).1); iexact S1
  isplitl [S2]; · iapply (s_forget m ρ (sh_ne c).2.1); iexact S2
  iapply (s_forget m ρ (sh_ne c).2.2); iexact S3

theorem mem_orows {lo n : ℕ} {b : Dev nD} {i : S256x16384.Idx} :
    i ∈ orows lo n b ↔ (lo ≤ (i 0).val ∧ (i 0).val < lo + n) ∧ (4096 * b.val ≤ (i 1).val ∧ (i 1).val < 4096 * b.val + 4096) := by simp [orows]

/-- The stores fill the result buffer. -/
theorem cover (c : Dev nD) (i : S256x16384.Idx) :
    i ∈ ∅ ∪ orows 0 128 c ∪ orows 128 128 c ∪ orows 0 128 (sh c 3) ∪ orows 128 128 (sh c 1) ∪ orows 0 128 (sh c 2) ∪ orows 128 128 (sh c 2)
      ∪ orows 0 64 (sh c 1) ∪ orows 128 64 (sh c 3) ∪ orows 64 64 (sh c 1) ∪ orows 192 64 (sh c 3) := by
  have h0 := idx2_lt0 i
  have h1 := idx2_lt1 i
  have hc : c.val < 4 := c.isLt
  have hd : c.val = 0 ∨ c.val = 1 ∨ c.val = 2 ∨ c.val = 3 := by omega
  simp only [Finset.mem_union, mem_orows, sh_val]
  rcases hd with hd | hd | hd | hd <;> rw [hd] <;> simp only [Nat.reduceAdd, Nat.reduceMod, Nat.reduceMul] <;> omega

theorem ob_done (c : Dev nD) : ob m ρ c (∅ ∪ orows 0 128 c ∪ orows 128 128 c ∪ orows 0 128 (sh c 3) ∪ orows 128 128 (sh c 1) ∪ orows 0 128 (sh c 2) ∪ orows 128 128 (sh c 2)
      ∪ orows 0 64 (sh c 1) ∪ orows 128 64 (sh c 3) ∪ orows 64 64 (sh c 1) ∪ orows 192 64 (sh c 3))
    ⊢ ((c : Thread nD τ).loc cc0_stg2_0 ↦{fullShare} outFin m ρ) := by
  unfold ob
  iintro ⟨%f, %hf, H⟩
  have : f = outFin m ρ := funext fun i => hf i (cover c i)
  subst this
  iexact H

/-- A program that goes on. -/
theorem runs_bind {α β : Type} (c : Dev nD) {p : Prog (TpuEff nD τ sig (Elt F) Λ₀ .tc) α} {k : α → Prog (TpuEff nD τ sig (Elt F) Λ₀ .tc) β} {Q : β → sProp 𝕄} :
    runs c p (fun a => runs c (k a) Q) ⊢ runs c (p >>= k) Q := by
  unfold runs
  rw [wp_bind]

variable (K : Dev nD × Fin 31 → ℕ)

set_option maxRecDepth 65536
set_option maxHeartbeats 4000000

/-- The kernel runs on device `c`: it gives back its scratch buffers and its semaphores, and leaves the result. -/
theorem sound_body (c : Dev nD) {Q : PUnit → sProp 𝕄} :
    iprop(env m ρ K ∗ sends c ∗ recvs c ∗ bars c ∗ scr c ∗ ow c 0 ∗ xw m ρ c ∗ ob m ρ c ∅)
      ⊢ iprop(((scr c ∗ zeros c ∗ semVal (barCell c) 0 ∗ ow c 18 ∗ xw m ρ c ∗ ((c : Thread nD τ).loc cc0_stg2_0 ↦{fullShare} outFin m ρ)) -∗ Q ⟨⟩)
        -∗ runs c (cc0_body xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7) Q) := by
  rw [cc0_body_eq_skeleton]; unfold cc0_body_skel sends recvs bars
  iintro ⟨#HE, ⟨TR0, TR1, TR2, TR3, TR4, TR5, TL0, TL1, TL2, TL3, TL4, TL5, TS0, TS1, TS2⟩,
    ⟨WR0, WR1, WR2, WR3, WR4, WR5, WL0, WL1, WL2, WL3, WL4, WL5, WS0, WS1, WS2⟩, ⟨TB1, TB2, TB3, HC, HA⟩, HS, HO, HX, HB⟩ Hk
  ihave HS := (scr_deal c) $$ HS
  icases HS with ⟨HJ, HSt, P1, P2, P3⟩
  iapply (runs_bind c); iapply (part1 m ρ c) $$ [$]
  iintro %v2 %v13 %v24 ⟨HX, HJ⟩
  iapply (runs_bind c); iapply (part2 m ρ K c v2) $$ [$]
  iintro %v65 %v66 %v67 ⟨G0, G1, G2, G3, HO⟩
  iapply (runs_bind c); iapply (part3 m ρ K c v2 v65 v66 v67) $$ [$]
  iintro %v86 %v97 %v100 %c0 ⟨Q0, Q1, Q2, ZB, HO⟩
  ihave Q0 := (Entails.of_eq (bar_got c).1) $$ Q0
  ihave Q1 := (Entails.of_eq (bar_got c).2.1) $$ Q1
  ihave Q2 := (Entails.of_eq (bar_got c).2.2) $$ Q2
  icases Q0 with ⟨D3, JL0, JL1, JL2, JL3, JL4, JL5⟩
  icases Q2 with ⟨D1, JR0, JR1, JR2, JR3, JR4, JR5⟩
  iapply (runs_bind c); iapply (part4 m ρ K c v13 v24 v86 v97 v100 c0) $$ [$]
  iintro %v131 %c128 ⟨G0, G2, WA0, WC0, HO⟩
  iapply (runs_bind c); iapply (part5 m ρ K c v2 v13 v24 v131 c128) $$ [$]
  iintro ⟨G1, G3, WA1, WC1, ⟨%f, %hf, HSt⟩, HO⟩
  ihave HSt := (s_lend c f) $$ HSt
  icases HSt with ⟨S0, S1, S2, SK⟩
  iapply (runs_bind c); iapply (part6 m ρ K c v2 f hf) $$ [$]
  iintro %v200 %c1 ⟨WB0, HO⟩
  iapply (runs_bind c); iapply (part7 m ρ K c v2 v200 c1 f hf) $$ [$]
  iintro %v232 %v233 %v234 %c157 ⟨WB1, WB2, HO⟩
  iapply (runs_bind c); iapply (part8 c v2 v232 v233 v234 c157)
  iintro %v253 %v266 %v269 %c182
  ihave SK : sOne m ρ c c $$ [SK]
  · rw [sOne_self]; iexists f; isplitr; · ipureintro; exact hf
    iexact SK
  iapply (runs_bind c); iapply (part9 m ρ K c v253 v266 v269 c182) $$ [$]
  iintro ⟨SK, SO1, SO2, SO3, Z27, Z28, Z29, HO⟩
  iapply (runs_bind c); iapply (part10 m ρ c v2 v86 v97 ∅) $$ [$]
  iintro %v340 %c219 %v341 ⟨G0, G1, G2, G3, HB⟩
  iapply (runs_bind c); iapply (part11 m ρ K c v2 v13 v24 v340 c219 v341) $$ [$]
  iintro %v350 %v361 %v374 %c245 ⟨A30, A12, Z6, Z18, HO⟩
  iapply (runs_bind c); iapply (part12 m ρ K c v13 v24 v350 v361 v374 c245) $$ [$]
  iintro ⟨A30, A12, WA2, WC2, A31, Z7, HO⟩
  iapply (runs_bind c); iapply (part13 m ρ K c v13 v24 v350 v361) $$ [$]
  iintro ⟨A13, Z19, A31, WA3, HO⟩
  iapply (runs_bind c); iapply (part14 m ρ K c v2 v350 v361 _) $$ [$]
  iintro %v471 %v472 %c317 %v473 ⟨A13, WC3, HO, A30, A31, A12, HB⟩
  iapply (runs_bind c); iapply (part15 m ρ K c v13 v24 v471 v472 c317 v473) $$ [$]
  iintro %v482 ⟨A20, A22, Z8, Z20, HO⟩
  iapply (runs_bind c); iapply (part16 m ρ K c v13 v24 v471) $$ [$]
  iintro %c371 ⟨A20, A22, WA4, WC4, A21, A23, Z9, Z21, HO⟩
  iapply (runs_bind c); iapply (part17 m ρ K c v13 v24 v471 v482 c371 _) $$ [$]
  iintro ⟨A21, A23, WA5, WC5, A20, HB, HO⟩
  iapply (runs_bind c); iapply (part18 m ρ c v2 v24 v482 _) $$ [$]
  iintro %v592 %v603 %v604 %c416 ⟨A22, A23, HB⟩
  iapply (runs_bind c); iapply (part19 m ρ K c v13 v592 v603 v604 c416 _) $$ [$]
  iintro ⟨A10, A32, Z10, Z22, HB, HO⟩
  iapply (runs_bind c); iapply (part20 m ρ K c v13 v24 v592 v603 _) $$ [$]
  iintro %v675 ⟨A11, A33, Z11, Z23, HB, HO⟩
  iapply (runs_bind c); iapply (part21 m ρ K c v675 _) $$ [$]
  iintro ⟨HB, E00, E02, E01, E03, E30, Z0, Z12, Z1, Z13, Z2, HO⟩
  iapply (runs_bind c); iapply (part22 m ρ K c) $$ [$]
  iintro ⟨E12, E31, E13, E20, E22, E21, Z14, Z3, Z15, Z4, Z16, Z5, HO⟩
  simp only [Prog.lift, Prog.bind_op, Prog.bind_ret, Prog.pure_eq_ret]
  iapply (step_take m ρ K c 17 _ (P := gPts m ρ c (sh c 2) 3 fullShare.left) rfl 18 (by decide) rfl (credit_g _ _)) $$ [$]
  iintro ⟨E23, Z17, HO⟩
  iapply (step_take m ρ K c 24 _ (P := iprop(∃ f, sPts c c (lent 0) f)) rfl 18 (by decide) rfl (credit_s _ _)) $$ [$]
  iintro ⟨S0, Z24, HO⟩
  iapply (step_take m ρ K c 25 _ (P := iprop(∃ f, sPts c c (lent 1) f)) rfl 18 (by decide) rfl (credit_s _ _)) $$ [$]
  iintro ⟨S1, Z25, HO⟩
  iapply (step_take m ρ K c 26 _ (P := iprop(∃ f, sPts c c (lent 2) f)) rfl 18 (by decide) rfl (credit_s _ _)) $$ [$]
  iintro ⟨S2, Z26, HO⟩
  iapply (runs_ret c)
  iapply Hk
  ihave HB := (ob_done m ρ c) $$ HB
  unfold scr zeros
  ihave HG := (g_end m ρ c) $$ [G0 G1 G2 G3 E00 E01 E02 E03 A10 A11 A12 A13 E12 E13 A20 A21 A22 A23 E20 E21 E22 E23 A30 A31 A32 A33 E30 E31]
  · unfold gEnd; iframe
  ihave HSS := (s_end m ρ c) $$ [S0 S1 S2 SK SO1 SO2 SO3]
  · iframe
  iframe

end Cert.KernelIdealProof

end
-- ==== Proof.LaunchIdeal.lean ====
module

public import proofs.«01_k».proof.Proof.BodyIdeal
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! # The launch: dealing the ring's tokens, running the kernel on four devices, the final memory -/

set_option maxRecDepth 8000

/-! ## Chains over the thirty semaphores -/

/-- Thirty resources one by one. -/
def all30 (Φ : (j : ℕ) → j < 30 → sProp 𝕄) : sProp 𝕄 :=
  iprop(Φ 0 (by decide) ∗ Φ 1 (by decide) ∗ Φ 2 (by decide) ∗ Φ 3 (by decide) ∗ Φ 4 (by decide) ∗ Φ 5 (by decide)
    ∗ Φ 6 (by decide) ∗ Φ 7 (by decide) ∗ Φ 8 (by decide) ∗ Φ 9 (by decide) ∗ Φ 10 (by decide) ∗ Φ 11 (by decide)
    ∗ Φ 12 (by decide) ∗ Φ 13 (by decide) ∗ Φ 14 (by decide) ∗ Φ 15 (by decide) ∗ Φ 16 (by decide) ∗ Φ 17 (by decide)
    ∗ Φ 18 (by decide) ∗ Φ 19 (by decide) ∗ Φ 20 (by decide) ∗ Φ 21 (by decide) ∗ Φ 22 (by decide) ∗ Φ 23 (by decide)
    ∗ Φ 24 (by decide) ∗ Φ 25 (by decide) ∗ Φ 26 (by decide) ∗ Φ 27 (by decide) ∗ Φ 28 (by decide) ∗ Φ 29 (by decide))

omit [FloatOps F] in
theorem all30_eq (Φ : (j : ℕ) → j < 30 → sProp 𝕄) : bigSep Finset.univ (fun j : Fin 30 => Φ j.val j.isLt) = all30 Φ :=
  bigSep_univ_eq_bigSepL [0, 1, 2, 3, 4, 5, 6, 7, 8, 9, 10, 11, 12, 13, 14, 15, 16, 17, 18, 19, 20, 21, 22, 23, 24, 25, 26, 27, 28, 29] (by decide +kernel) (by decide +kernel) _
omit [FloatOps F] in
/-- The barrier's and the kernel's own thirty. -/
theorem bigSep_31 (Φ : Fin 31 → sProp 𝕄) : bigSep Finset.univ Φ = iprop(Φ 0 ∗ bigSep Finset.univ fun j : Fin 30 => Φ ⟨j.val + 1, Nat.succ_lt_succ j.isLt⟩) := by
  rw [all30_eq fun j hj => Φ ⟨j + 1, Nat.succ_lt_succ hj⟩]
  exact bigSep_univ_eq_bigSepL [0, 1, 2, 3, 4, 5, 6, 7, 8, 9, 10, 11, 12, 13, 14, 15, 16, 17, 18, 19, 20, 21, 22, 23, 24, 25, 26, 27, 28, 29, 30] (by decide +kernel) (by decide +kernel) _

/-- How far to the right the device is that holds the receiving end of DMA semaphore `j` of a copy: 0 for a sending one. -/
def dist (j : ℕ) : ℕ := if j < 6 then 0 else if j < 12 then 1 else if j < 18 then 0 else if j < 24 then 3 else if j < 27 then 0 else j - 26
theorem dist_le {j : ℕ} (hj : j < 30) : dist j ≤ 4 := by unfold dist; (repeat' split) <;> omega
/-- The credit the launch books on DMA semaphore `j`: what the other devices owe it. -/
def units (j : ℕ) : ℕ := if dist j = 0 then 0 else amt j

/-! ## The pipeline's proof data -/

/-- What device `c`'s body starts from; -/
def start (c : Dev nD) : sProp 𝕄 := iprop(∃ K, env m ρ K ∗ sends c ∗ recvs c ∗ bars c)
def Φ₀ (c : Dev nD) : sProp 𝕄 := iprop(start m ρ c ∗ scr c)
/-- and what it ends with. -/
def Φ₁ (c : Dev nD) : sProp 𝕄 := iprop(scr c ∗ zeros c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outFin m ρ
  Φ t := match t with
    | ⟨0, _⟩ => Φ₀ m ρ c
    | ⟨_ + 1, _⟩ => Φ₁ c
  q _ := fullShare
  owed t := match t with
    | ⟨0, _⟩ => owed c 0
    | ⟨_ + 1, _⟩ => owed c 18

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem before_x (c : Dev nD) (d) : (dats m ρ 0 c).before (0 : Fin 3) t0_0 d = xstg m ρ c := by
  unfold Dat.before; rw [if_pos (fetch0_0 t0_0)]; rfl
theorem before_w (c : Dev nD) (d) : (dats m ρ 0 c).before (1 : Fin 3) t0_0 d = wstg m ρ c := by
  unfold Dat.before; rw [if_pos (fetch0_1 t0_0)]; rfl

/-- A staging buffer of device `c` holding `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ
    ∗ stg c cc0_stg0_0 (xstg m ρ c) ∗ stg c cc0_stg1_0 (wstg m ρ c) ∗ stg c cc0_stg2_0 (outFin m ρ))

theorem owesAt_zero (c : Dev nD) : (dats m ρ 0 c).owesAt () t0_0.castSucc ⊢ ow c 0 := by
  unfold Dat.owesAt Pipeline.owesWithin ow
  iintro ⟨%W, %hW, HO⟩
  iexists W; iexact HO
theorem owesAt_one (c : Dev nD) : ow c 18 ⊢ (dats m ρ 0 c).owesAt () t0_0.succ := by
  unfold Dat.owesAt Pipeline.owesWithin ow
  iintro ⟨%W, HO⟩
  iexists W
  isplitr; · ipureintro; exact fun _ _ => Or.inl trivial
  iexact HO

/-- The body, from what the pipeline hands it to what the pipeline takes back. -/
theorem body_wp (c : Dev nD) : bodyPre m ρ c ⊢ runs c (cc0_body xM (Memref.isWhole_whole _) wM (Memref.isWhole_whole _) oM (Memref.isWhole_whole _) gM (Memref.isWhole_whole _) sM (Memref.isWhole_whole _)
      cc0_scratch2 cc0_scratch3 cc0_scratch4 cc0_scratch5 cc0_scratch6 cc0_scratch7) (fun _ => bodyPost m ρ c) := by
  unfold bodyPre Φ₀ start stg
  iintro ⟨⟨⟨%K, HE, HSd, HRc, HBr⟩, Hscr⟩, Ho, ⟨%d0, %f0, %h0, Hx⟩, ⟨%d1, %f1, %h1, Hw⟩, ⟨%d2, %f2, %h2, Hout⟩⟩
  have h0' := h0.trans (before_x m ρ c d0)
  have h1' := h1.trans (before_w m ρ c d1)
  subst h0' h1'
  ihave Ho := (owesAt_zero m ρ c) $$ Ho
  iapply (sound_body m ρ K c (Q := fun _ => bodyPost m ρ c)) $$ [HE HSd HRc HBr Hscr Ho Hx Hw Hout]
  · unfold xw ob
    isplitl [HE]; · iexact HE
    isplitl [HSd]; · iexact HSd
    isplitl [HRc]; · iexact HRc
    isplitl [HBr]; · iexact HBr
    isplitl [Hscr]; · iexact Hscr
    isplitl [Ho]; · iexact Ho
    isplitl [Hx Hw]
    · isplitl [Hx] <;> iassumption
    iexists f2
    isplitr; · ipureintro; exact fun i hi => absurd hi (Finset.notMem_empty i)
    iexact Hout
  · iintro ⟨Hscr, Hz, Hb, Ho, Hxw, Hout⟩
    unfold bodyPost Φ₁ stg xw
    icases Hxw with ⟨Hx, Hw⟩
    isplitl [Hscr Hz Hb]
    · isplitl [Hscr]; · iexact Hscr
      isplitl [Hz] <;> iassumption
    isplitl [Ho]; · iapply (owesAt_one m ρ c); iexact Ho
    isplitl [Hx]
    · iexists _; isplitr; · (ipureintro; rfl)
      iexact Hx
    isplitl [Hw]
    · iexists _; isplitr; · (ipureintro; rfl)
      iexact Hw
    iexists _; isplitr; · (ipureintro; rfl)
    iexact Hout

/-- What the pipeline asks of the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_wp m ρ c

/-! ## The ring's cells and tokens at launch -/

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by decide +kernel
theorem kcell_injective : Function.Injective (kcell : Dev nD × Fin 31 → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def ringCells : Finset (GSem nD τ sig) := Finset.univ.map ⟨kcell, kcell_injective⟩

/-- The tokens of a device's own cells: its barrier's three, and one for each of its DMA semaphores. -/
abbrev tokOf (x : Dev nD × (Fin 3 ⊕ Fin 30)) : GSem nD τ sig × ℕ × Fin 3 := match x.2 with
  | .inl e => (barCell x.1, 0, e)
  | .inr j => (dcell x.1 j.val j.isLt, 0, 0)
theorem tokOf_injective : Function.Injective (tokOf : Dev nD × (Fin 3 ⊕ Fin 30) → GSem nD τ sig × ℕ × Fin 3) := by
  rintro ⟨c, e | j⟩ ⟨c', e' | j'⟩ h
  · have h1 : c = c' := congrArg (fun x : GSem nD τ sig × ℕ × Fin 3 => x.1.1.1) h
    have h2 : e = e' := congrArg (fun x : GSem nD τ sig × ℕ × Fin 3 => x.2.2) h
    rw [h1, h2]
  · exact absurd (congrArg (fun x : GSem nD τ sig × ℕ × Fin 3 => x.1.2) h) (fun h' => by cases h')
  · exact absurd (congrArg (fun x : GSem nD τ sig × ℕ × Fin 3 => x.1.2) h) (fun h' => by cases h')
  · have h1 : c = c' := congrArg (fun x : GSem nD τ sig × ℕ × Fin 3 => x.1.1.1) h
    have h2 : osem j = osem j' := congrArg (fun x : GSem nD τ sig × ℕ × Fin 3 => x.1.2) h
    have h3 : dsem j.val j.isLt = dsem j'.val j'.isLt := SemLoc.dma.inj h2
    have h4 : j.val + 3 = j'.val + 3 := congrArg Fin.val h3
    rw [h1, Fin.ext (show j.val = j'.val by omega)]
def ringToks : Finset (GSem nD τ sig × ℕ × Fin 3) := Finset.univ.map ⟨tokOf, tokOf_injective⟩

def u₀ : UU := (initOf (Pipeline.cells cfgs cellOf_inj) (Pipeline.launchToks cfgs cellOf_inj), initOf ringCells ringToks)

/-- The tokens of device `c`'s own cells; -/
def toks (c : Dev nD) : sProp 𝕄 :=
  iprop((dutyTok ER (barCell c) 0 0 ∗ dutyTok ER (barCell c) 0 1 ∗ dutyTok ER (barCell c) 0 2)
    ∗ bigSep Finset.univ fun j : Fin 30 => dutyTok ER (dcell c j.val j.isLt) 0 0)
/-- and those of the duties it pays. -/
def payToks (c : Dev nD) : sProp 𝕄 :=
  iprop((dutyTok ER (barCell (sh c 1)) 0 0 ∗ dutyTok ER (barCell (sh c 2)) 0 1 ∗ dutyTok ER (barCell (sh c 3)) 0 2)
    ∗ bigSep Finset.univ fun j : Fin 30 => dutyTok ER (dcell (sh c (dist j.val)) j.val j.isLt) 0 0)

/-- What the launch deals device `c`; -/
def G (c : Dev nD) : sProp 𝕄 :=
  iprop((bigSep Finset.univ fun k : Fin 31 => roundState ER (rd m ρ) (kcell (c, k)) 0)
    ∗ (bigSep Finset.univ fun k : Fin 31 => iprop(atPos ER (kcell (c, k)) 0 ∅ 0 ∗ reached ER (kcell (c, k)) 0)) ∗ toks c)
/-- what stays with it: its positions, and the tokens of the duties it pays; -/
def linear (c : Dev nD) : sProp 𝕄 := iprop((bigSep Finset.univ fun k : Fin 31 => atPos ER (kcell (c, k)) 0 ∅ 0) ∗ payToks c)
/-- and what the exchange among the devices makes of it. -/
def G' (c : Dev nD) : sProp 𝕄 := iprop(∃ K, records m ρ K ∗ linear c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 31 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [BI.bigSep_univ_sum, bigSep_univ_eq_bigSepL [(0 : Fin 3), 1, 2] (by decide) (by decide)]; rfl
  iintro HX
  imod (Rounds.fund ER (rd m ρ) ringCells ringToks) $$ HX with ⟨Hst, Hr, Hat, Htok⟩
  imodintro
  ihave Hst := (Entails.of_eq (hX fun g => roundState ER (rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- The kernel's own semaphores at zero, one by one; -/
theorem ownSems0_eq (c : Dev nD) : (Pipeline.ownSems0 (Ix := Unit) (Name := ℕ) (U := UU) (Lvl := ℕ) (Val := Elt F) (τ := τ) osem c : sProp 𝕄)
    = bigSep Finset.univ fun j : Fin 30 => semVal (dcell c j.val j.isLt) 0 := rfl
theorem ownSems0_zeros (c : Dev nD) : (Pipeline.ownSems0 (Ix := Unit) (Name := ℕ) (U := UU) (Lvl := ℕ) (Val := Elt F) (τ := τ) osem c : sProp 𝕄) = zeros c := by
  rw [ownSems0_eq, all30_eq fun j hj => (semVal (dcell c j hj) 0 : sProp 𝕄)]; rfl
omit [FloatOps F] in
/-- the barrier's is the one semaphore that is not. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 31 => semVal (kcell (c, k)) 0 : sProp 𝕄) := by
  rw [ownSems0_eq, unscopedSems0_eq, bigSep_31]
  iintro ⟨HS, HB⟩
  isplitl [HB]; · iexact HB
  iexact HS

/-- Each device opens its cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 31 => semVal (kcell (c, k)) 0) ∗ bigSep Finset.univ fun k : Fin 31 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The DMA tokens moved to the devices that pay them. -/
theorem dma_around : (bigSep Finset.univ fun c : Dev nD => bigSep Finset.univ fun j : Fin 30 => (dutyTok ER (dcell c j.val j.isLt) 0 0 : sProp 𝕄))
    = bigSep Finset.univ fun c : Dev nD => bigSep Finset.univ fun j : Fin 30 => (dutyTok ER (dcell (sh c (dist j.val)) j.val j.isLt) 0 0 : sProp 𝕄) := by
  rw [BI.bigSep_univ_comm fun (c : Dev nD) (j : Fin 30) => (dutyTok ER (dcell c j.val j.isLt) 0 0 : sProp 𝕄),
    BI.bigSep_univ_comm fun (c : Dev nD) (j : Fin 30) => (dutyTok ER (dcell (sh c (dist j.val)) j.val j.isLt) 0 0 : sProp 𝕄)]
  exact bigSep_congr fun j _ => bigSep_univ_equiv (rot (dist j.val) (dist_le j.isLt)) (fun c : Dev nD => (dutyTok ER (dcell c j.val j.isLt) 0 0 : sProp 𝕄))

/-- All the tokens moved. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', dma_around,
    bigSep_univ_equiv (rot 1 (by decide)) (fun c : Dev nD => (dutyTok ER (barCell c) 0 0 : sProp 𝕄)),
    bigSep_univ_equiv (rot 2 (by decide)) (fun c : Dev nD => (dutyTok ER (barCell c) 0 1 : sProp 𝕄)),
    bigSep_univ_equiv (rot 3 (by decide)) (fun c : Dev nD => (dutyTok ER (barCell c) 0 2 : sProp 𝕄))]
  exact Entails.of_eq rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 31 => iprop(∃ κ : ℕ, cellInv ER (rd m ρ) κ (kcell ck))),
    bigSep_congr (s := Finset.univ) (fun (c : Dev nD) _ => bigSep_sep' Finset.univ (fun k : Fin 31 => (atPos ER (kcell (c, k)) 0 ∅ 0 : sProp 𝕄)) (fun k => reached ER (kcell (c, k)) 0)),
    bigSep_sep', ← bigSep_univ_prod (fun ck : Dev nD × Fin 31 => (reached ER (kcell ck) 0 : sProp 𝕄))]
  iintro ⟨HI, ⟨Hat, #HR⟩, Htok⟩
  ihave HK := (BI.bigSep_exists_pi Finset.univ (fun (ck : Dev nD × Fin 31) (κ : ℕ) => (cellInv ER (rd m ρ) κ (kcell ck) : sProp 𝕄))) $$ HI
  icases HK with ⟨%K, #HI⟩
  ihave Htk := (toks_around (F := F)) $$ Htok
  iapply (bigSep_with_persistent (R := records m ρ K) (Φ := linear) (Ψ := G' m ρ) fun c _ => by
    unfold G'; iintro ⟨H1, H2⟩; iexists K; isplitl [H1] <;> iassumption)
  isplitr
  · unfold records; isplitl; · iexact HI
    iexact HR
  · unfold linear; rw [bigSep_sep']
    isplitl [Hat]; · iexact Hat
    iexact Htk

/-- The exchange, over all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What the devices together owe each cell of device `c`. -/
theorem owed_sum : ∀ (c : Dev nD) (k : Fin 31),
    (∑ d : Dev nD, ((dues d).map fun p => if p.1 = kcell (c, k) then p.2 else 0).sum) = if k.val = 0 then 3 else units (k.val - 1) := by
  decide +kernel

theorem launch_cell (c : Dev nD) (k : Fin 31) :
    tallyOn (kcell (c, k)) (launchCredit (Pipeline.owing fun c => owed c 0) 0 (kcell (c, k)))
      = (tallyAt (kcell (c, k)) () (if k.val = 0 then 3 else units (k.val - 1)) : CellTallies nD τ sig Unit) := by
  unfold tallyAt; refine congrArg _ (Finsupp.ext fun u => ?_); cases u
  rw [Pipeline.launchCredit_owing, Finsupp.single_eq_same, ← owed_sum c k]
  exact Finset.sum_congr rfl fun d _ => owedL_apply (dues d) (kcell (c, k))

omit [FloatOps F] in
theorem creds (c : Dev nD) :
    (Pipeline.launchCred (fun c => owed c 0) c : sProp 𝕄)
      ⊢ iprop(cred (tallyAt (barCell c) () 3) ∗ all30 fun j hj => cred (tallyAt (dcell c j hj) () (units j))) := by
  unfold Pipeline.launchCred
  refine (bigSep_subset (t := Finset.univ.map ⟨csem, csem_injective⟩) (Finset.subset_univ _)).trans ?_
  rw [bigSep_map]
  refine (Entails.of_eq (bigSep_congr (s := Finset.univ) fun (k : Fin 31) _ => congrArg (fun t => (cred t : sProp 𝕄)) (launch_cell c k))).trans ?_
  rw [bigSep_31, ← all30_eq]
  exact Entails.of_eq rfl

/-! ## The side conditions of the launch -/

/-- Device `c`'s positions, tokens and credits, grouped by the copies that use them. -/
theorem deal (c : Dev nD) : iprop(linear c ∗ cred (tallyAt (barCell c) () 3) ∗ all30 (F := F) fun j hj => cred (tallyAt (dcell c j hj) () (units j)))
    ⊢ iprop(sends c ∗ recvs c ∗ bars c) := by
  unfold linear payToks
  rw [bigSep_31, all30_eq fun j hj => (dutyTok ER (dcell (sh c (dist j)) j hj) 0 0 : sProp 𝕄),
    show (bigSep Finset.univ fun j : Fin 30 => (atPos ER (kcell (c, ⟨j.val + 1, Nat.succ_lt_succ j.isLt⟩)) 0 ∅ 0 : sProp 𝕄))
      = all30 fun j hj => (atPos ER (dcell c j hj) 0 ∅ 0 : sProp 𝕄) from all30_eq fun j hj => (atPos ER (dcell c j hj) 0 ∅ 0 : sProp 𝕄)]
  unfold all30 sends recvs bars sTok wTok
  simp only [units, dist, Nat.reduceLT, ↓reduceIte, sh_zero, Nat.reduceSub, kcell_zero, Nat.reduceEqDiff, one_ne_zero, OfNat.ofNat_ne_zero]
  iintro ⟨⟨⟨AB, AD⟩, TB, TD⟩, CB, CD⟩
  icases TB with ⟨TB0, TB1, TB2⟩
  icases AD with ⟨A0, A1, A2, A3, A4, A5, A6, A7, A8, A9, A10, A11, A12, A13, A14, A15, A16, A17, A18, A19, A20, A21, A22, A23, A24, A25, A26, A27, A28, A29⟩
  icases TD with ⟨T0, T1, T2, T3, T4, T5, T6, T7, T8, T9, T10, T11, T12, T13, T14, T15, T16, T17, T18, T19, T20, T21, T22, T23, T24, T25, T26, T27, T28, T29⟩
  icases CD with ⟨-, -, -, -, -, -, C6, C7, C8, C9, C10, C11, -, -, -, -, -, -, C18, C19, C20, C21, C22, C23, -, -, -, C27, C28, C29⟩
  iframe

theorem start_intro (c : Dev nD) :
    iprop(Pipeline.unscopedRestP Pipeline.Prefetch.none cfg0.spec c (fun b => m ((c : Thread nD τ).loc b)) ∗ levAts L lv
        ∗ Pipeline.launchCred (fun c => owed c 0) c ∗ prngReg c (ρ c) ∗ G' m ρ c)
      ⊢ |={Set.univ}=> iprop(start m ρ c ∗ emp) := by
  unfold G'
  iintro ⟨-, Hlev, Hcr, -, ⟨%K, HR, HL⟩⟩
  ihave Hc := (creds (F := F) c) $$ Hcr
  ihave HD := (deal c) $$ [HL Hc]
  · isplitl [HL] <;> iassumption
  imodintro
  unfold start env
  isplitl
  · iexists K
    isplitl [HR Hlev]
    · isplitl [HR] <;> iassumption
    iexact HD
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_zeros, unscopedSems0_eq]
  unfold Φ₁ scr
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (by fin_cases w <;> fin_cases s <;> decide)
    · exact mayWait c _ 18 (by intro s hs; simp [dueSems] at hs)

/-! ## The run -/

/-- The array of window `w` of device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every fair execution of the program on the four devices terminates, with each
    device's arrays at their final contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => owed c 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two argument arrays end as they began; -/
theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _
/-- the result array ends at `outFin`, on every device. -/
theorem finalA_out (c : Dev nD) : finalA m ρ c (2 : Fin 3) = outFin m ρ := by
  have hz : (fun a => (win0_2.index (0 : Fin 1)) a * main_v1.ty.shape.size a) = fun _ => 0 :=
    funext fun a => by fin_cases a <;> decide
  have hr := fun f => Memref.read_access_unit_zero (Elt F) main_v1 hz (fun a => by fin_cases a <;> decide) f
  have ho : (win0_2.blk (0 : Fin 1)).view.read (Elt F) (finalA m ρ c (2 : Fin 3)) = outFin m ρ := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  exact (hr _).symm.trans ho

/-- What a run of the program leaves: the arguments unchanged, `outFin` in every device's result. -/
theorem run_out (m : (ℓ : Loc nD τ sig) → Buf (Elt F) ℓ) (g : Dev nD → PrngReg) :
    θ_run defs (onTc (τ := τ) (main (F := F))) ⟨m, fun _ => 0, g⟩ (fun r =>
      (∀ c : Dev nD, r.2.mem ((c : Thread nD τ).loc main_v1) = outFin m g
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs (onTc (τ := τ) (main (F := F))) (s₀ m g)).mono (fun r h =>
    ⟨fun c => ⟨(h.1 c (2 : Fin 3)).trans (finalA_out m g c), (h.1 c (0 : Fin 3)).trans (finalA_x m g c), (h.1 c (1 : Fin 3)).trans (finalA_w m g c)⟩, h.2⟩) (run_main m g)

end Cert.KernelIdealProof

end
-- ==== Proof.Frames.lean ====
/- What each of the three programs leaves behind: the kernel as written, the kernel read at the extended reals and the
   reference run to the end, keep their arguments and end with every semaphore counter at zero. -/
module

public import proofs.«01_k».proof.Defs
public import proofs.«01_k».proof.Proof.Launch
public import proofs.«01_k».proof.Proof.LaunchIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel at bit patterns terminates, keeps its arguments and leaves every counter at zero; -/
theorem frame_kernel : Cert.quiescent_Kernel (hKernel := Cert.Kernel.Gen.facts) := fun m g _ =>
  (θ_run _ _ _).mono (fun _ h => ⟨fun c => (h.1 c).2, h.2⟩) (Cert.KernelProof.run_out (F := Bits) m g)

/-- so does the kernel at the extended reals, -/
theorem frame_ideal : Cert.quiescent_KernelIdeal (hKernelIdeal := Cert.KernelIdeal.Gen.facts) := fun m g _ =>
  (θ_run _ _ _).mono (fun _ h => ⟨fun c => (h.1 c).2, h.2⟩) (Cert.KernelIdealProof.run_out (F := Ideal) m g)

/-- and the reference, which has no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

end Cert.Proof

end
-- ==== Proof.Softmax.lean ====
/- A row's softmax over the extended reals, computed in two ways: at once over all columns, and from four blocks' maxima and
   sums of exponentials through a logarithm. On finite logits the two agree. -/
module

public import Idealize.ShloMosaic.PureOps.Ideal
public import Mathlib.Data.EReal.Inv
public import Mathlib.Analysis.SpecialFunctions.Log.Basic
public import Mathlib.Logic.Equiv.Fin.Basic

@[expose] public section

noncomputable section

namespace Cert.Softmax

open Idealize.ShloMosaic

/-! ## The operations on real arguments -/

/-- The word the maxima start from is minus infinity. -/
theorem bits_bot : Ideal.ofBits .f32 0xFF800000#32 = ⊥ := by simp [Ideal.ofBits, Ideal.ieee]
/-- The exponential of a real; -/
theorem exp_coe (r : ℝ) : Ideal.exp (r : EReal) = (Real.exp r : EReal) := rfl
/-- the logarithm of a positive real; -/
theorem log_coe {r : ℝ} (h : 0 < r) : Ideal.log (r : EReal) = (Real.log r : EReal) := if_neg (not_le.mpr h)
/-- a quotient of reals; -/
theorem div_coe (a : ℝ) {b : ℝ} (h : b ≠ 0) : Ideal.div (a : EReal) (b : EReal) = ((a / b : ℝ) : EReal) := by
  unfold Ideal.div
  rw [if_neg (by exact_mod_cast h), div_eq_mul_inv, EReal.coe_mul, EReal.coe_inv]
/-- a sum of reals. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The maximum of a family of extended reals; -/
def top {n : ℕ} (f : Fin n → EReal) : EReal := Finset.univ.fold max ⊥ f
/-- it is the least upper bound, -/
theorem top_eq {n : ℕ} (f : Fin n → EReal) : top f = Finset.univ.sup f := rfl
/-- of a nonempty family of reals it is real. -/
theorem top_real {n : ℕ} (hn : 0 < n) (f : Fin n → ℝ) : ∃ r : ℝ, top (fun k => (f k : EReal)) = r := by
  obtain ⟨k, -, hk⟩ := Finset.exists_mem_eq_sup Finset.univ ⟨(⟨0, hn⟩ : Fin n), Finset.mem_univ _⟩ fun k => (f k : EReal)
  exact ⟨f k, hk⟩

/-! ## Four blocks and the whole row -/

/-- The whole row of four blocks of 4096 columns. -/
def whole {α : Type} (L : Fin 4 → Fin 4096 → α) (j : Fin 16384) : α := L ⟨j.val / 4096, by omega⟩ ⟨j.val % 4096, by omega⟩

/-- A column as its block and its place in it. -/
def split : Fin 4 × Fin 4096 ≃ Fin 16384 where
  toFun p := ⟨4096 * p.1.val + p.2.val, by omega⟩
  invFun j := (⟨j.val / 4096, by omega⟩, ⟨j.val % 4096, by omega⟩)
  left_inv p := by
    refine Prod.ext (Fin.ext ?_) (Fin.ext ?_)
    · show (4096 * p.1.val + p.2.val) / 4096 = p.1.val; omega
    · show (4096 * p.1.val + p.2.val) % 4096 = p.2.val; omega
  right_inv j := Fin.ext (by show 4096 * (j.val / 4096) + j.val % 4096 = j.val; omega)

/-- The whole row at a block's column is the block there. -/
theorem whole_split {α : Type} (L : Fin 4 → Fin 4096 → α) (p : Fin 4 × Fin 4096) : whole L (split p) = L p.1 p.2 := by
  have h := split.left_inv p
  exact congrArg (fun q : Fin 4 × Fin 4096 => L q.1 q.2) h

/-- A sum over the row is the sum of the blocks' sums; -/
theorem sum_whole (L : Fin 4 → Fin 4096 → ℝ) : ∑ j, whole L j = ∑ b, ∑ n, L b n := by
  rw [← Equiv.sum_comp split, Fintype.sum_prod_type]
  exact Finset.sum_congr rfl fun b _ => Finset.sum_congr rfl fun n _ => whole_split L (b, n)
/-- the row's maximum the greatest of the blocks'. -/
theorem top_whole (L : Fin 4 → Fin 4096 → EReal) : top (whole L) = max (max (max (top (L 0)) (top (L 1))) (top (L 2))) (top (L 3)) := by
  have hle (b : Fin 4) : top (L b) ≤ top (whole L) := by
    rw [top_eq, top_eq]
    exact Finset.sup_le fun n _ => (le_of_eq (whole_split L (b, n)).symm).trans (Finset.le_sup (f := whole L) (Finset.mem_univ _))
  refine le_antisymm ?_ (max_le (max_le (max_le (hle 0) (hle 1)) (hle 2)) (hle 3))
  rw [top_eq]
  refine Finset.sup_le fun j _ => ?_
  have h (b : Fin 4) : top (L b) ≤ max (max (max (top (L 0)) (top (L 1))) (top (L 2))) (top (L 3)) := by
    fin_cases b
    · exact (le_max_left _ _).trans ((le_max_left _ _).trans (le_max_left _ _))
    · exact (le_max_right _ _).trans ((le_max_left _ _).trans (le_max_left _ _))
    · exact (le_max_right _ _).trans (le_max_left _ _)
    · exact le_max_right _ _
  refine le_trans ?_ (h ⟨j.val / 4096, by omega⟩)
  rw [top_eq]
  exact Finset.le_sup (f := L ⟨j.val / 4096, by omega⟩) (Finset.mem_univ _)

/-! ## The two softmaxes -/

/-- A block's sum of exponentials against its maximum. -/
def bsum (f : Fin 4096 → EReal) : EReal := ∑ n, Ideal.exp (f n - top f)
/-- The greatest of four; -/
def max4 (M : Fin 4 → EReal) : EReal := max (max (max (M 0) (M 1)) (M 2)) (M 3)
/-- from four maxima and four sums, the maximum plus the logarithm of the whole sum. -/
def lse (M S : Fin 4 → EReal) : EReal :=
  max4 M + Ideal.log (0 + S 0 * Ideal.exp (M 0 - max4 M) + S 1 * Ideal.exp (M 1 - max4 M) + S 2 * Ideal.exp (M 2 - max4 M) + S 3 * Ideal.exp (M 3 - max4 M))
/-- Column `j` of the softmax of the row `L`. -/
def soft (L : Fin 16384 → EReal) (j : Fin 16384) : EReal := Ideal.div (Ideal.exp (L j - top L)) (0 + ∑ k, Ideal.exp (L k - top L))

/-- On finite logits the exponential against the blocks' constant is the softmax of the whole row. -/
theorem soft_eq (L : Fin 4 → Fin 4096 → EReal) (hL : ∀ b n, ∃ r : ℝ, L b n = r) (j : Fin 16384) :
    Ideal.exp (whole L j - lse (fun b => top (L b)) (fun b => bsum (L b))) = soft (whole L) j := by
  choose l hl using hL
  obtain rfl : L = fun b n => (l b n : EReal) := funext fun b => funext fun n => hl b n
  choose M hM using fun b : Fin 4 => top_real (by decide : 0 < 4096) (l b)
  have htop : top (whole fun b n => (l b n : EReal)) = max4 fun b => (M b : EReal) := by
    rw [top_whole]; unfold max4; simp only [hM]
  obtain ⟨m, hm⟩ : ∃ m : ℝ, max4 (fun b => (M b : EReal)) = m :=
    ⟨max (max (max (M 0) (M 1)) (M 2)) (M 3), by unfold max4; simp only [(EReal.coe_strictMono.monotone).map_max]⟩
  have hS (b : Fin 4) : bsum (fun n => (l b n : EReal)) = ((∑ n, Real.exp (l b n - M b) : ℝ) : EReal) := by
    unfold bsum; rw [hM, coe_sum]
    exact Finset.sum_congr rfl fun n _ => by rw [← EReal.coe_sub, exp_coe]
  have hw (k : Fin 16384) : whole (fun b n => (l b n : EReal)) k = ((whole l k : ℝ) : EReal) := rfl
  have hpos : 0 < ∑ k, Real.exp (whole l k - m) := Finset.sum_pos (fun _ _ => Real.exp_pos _) ⟨j, Finset.mem_univ _⟩
  have hz : (0 : ℝ) + (∑ n, Real.exp (l 0 n - M 0)) * Real.exp (M 0 - m) + (∑ n, Real.exp (l 1 n - M 1)) * Real.exp (M 1 - m)
      + (∑ n, Real.exp (l 2 n - M 2)) * Real.exp (M 2 - m) + (∑ n, Real.exp (l 3 n - M 3)) * Real.exp (M 3 - m) = ∑ k, Real.exp (whole l k - m) := by
    have h1 (b : Fin 4) : (∑ n, Real.exp (l b n - M b)) * Real.exp (M b - m) = ∑ n, Real.exp (l b n - m) := by
      rw [Finset.sum_mul]
      exact Finset.sum_congr rfl fun n _ => (Real.exp_add _ _).symm.trans (congrArg Real.exp (by ring))
    rw [h1, h1, h1, h1, zero_add]
    have h2 := sum_whole fun b n => Real.exp (l b n - m)
    rw [Fin.sum_univ_four] at h2
    exact h2.symm
  have hlse : lse (fun b => top fun n => (l b n : EReal)) (fun b => bsum fun n => (l b n : EReal))
      = ((m + Real.log (∑ k, Real.exp (whole l k - m)) : ℝ) : EReal) := by
    unfold lse
    simp only [hS, hM, hm, ← EReal.coe_sub, exp_coe]
    rw [show (0 : EReal) = ((0 : ℝ) : EReal) from rfl]
    simp only [← EReal.coe_mul, ← EReal.coe_add]
    rw [hz, log_coe hpos, ← EReal.coe_add]
  rw [hlse]
  unfold soft
  rw [htop, hm]
  simp only [hw, ← EReal.coe_sub, exp_coe]
  rw [← coe_sum, zero_add, div_coe _ hpos.ne']
  refine congrArg (fun r : ℝ => (r : EReal)) ?_
  rw [← sub_sub, Real.exp_sub, Real.exp_log hpos]

end Cert.Softmax

end
-- ==== Proof.KernelValue.lean ====
/- What the kernel's blocks of values are over the extended reals, element by element, and the result as the exponential of a
   logit against the constant made of the four devices' maxima and sums. -/
module

public import proofs.«01_k».proof.Proof.DataIdeal
public import proofs.«01_k».proof.Proof.Softmax
public import Idealize.ShloMosaic.Lib.Pointwise

@[expose] public section

set_option maxRecDepth 16384

noncomputable section

namespace Cert.KernelIdealProof

open Cert.KernelIdeal Cert.KernelIdeal.Gen
open Idealize.ShloMosaic hiding ix2
open Idealize.ShloMosaic.TcCoe
open Idealize.ShloMosaic.ValueIdx
open Cert.Softmax

/-- The product of two blocks at row `r`, column `n`. -/
def dotAt (X : FVec Ideal S256x512 .bf16) (W : FVec Ideal S512x4096 .bf16) (r : Fin 256) (n : Fin 4096) : EReal :=
  ∑ k : Fin 512, X (ix2 r k) * W (ix2 k n)

/-- The logits; -/
theorem pay1_at (X : FVec Ideal S256x512 .bf16) (W : FVec Ideal S512x4096 .bf16) (r : Fin 256) (n : Fin 4096) :
    k0_pay1 (F := Ideal) X W (ix2 r n) = dotAt X W r n := by
  unfold dotAt
  pointwise [k0_pay1]
  rfl
/-- rounded, which over the extended reals changes nothing; -/
theorem pay2_at (X : FVec Ideal S256x512 .bf16) (W : FVec Ideal S512x4096 .bf16) (r : Fin 256) (n : Fin 4096) :
    k0_pay2 (F := Ideal) X W (ix2 r n) = dotAt X W r n := by
  unfold dotAt
  pointwise [k0_pay2, k0_pay1]
  rfl
/-- each row's maximum; -/
theorem pay4_at (v : FVec Ideal S256x4096 .f32) (r : Fin 256) : k0_pay4 (F := Ideal) v (ix2 r 0) = top fun n => v (ix2 r n) := by
  unfold top
  pointwise [k0_pay4, k0_pay3]
  rw [bits_bot]
  rfl
/-- each row's sum of exponentials. -/
theorem pay5_at (v : FVec Ideal S256x4096 .f32) (r : Fin 256) : k0_pay5 (F := Ideal) v (ix2 r 0) = bsum fun n => v (ix2 r n) := by
  unfold bsum top
  pointwise [k0_pay5, k0_pay3]
  rw [bits_bot]
  rfl
/-- The constant out of four maxima and four sums. -/
theorem pay7_at (M S : Fin 4 → FVec Ideal S256x1 .f32) (r : Fin 256) :
    k0_pay7 (F := Ideal) (M 0) (M 1) (M 2) (M 3) (S 0) (S 1) (S 2) (S 3) (k0_pay6 (M 0) (M 1) (M 2)) (ix2 r 0) = lse (fun b => M b (ix2 r 0)) fun b => S b (ix2 r 0) := by
  unfold lse max4
  pointwise [k0_pay7, k0_pay6]
/-- The exponential of a difference. -/
theorem outS_eq (x y : EReal) : outS (F := Ideal) x y = Ideal.exp (x - y) := rfl

variable (m : (ℓ : Loc nD τ sig) → Buf (Elt Ideal) ℓ) (ρ : Dev nD → PrngReg)

/-- Device `b`'s logit in row `r`, column `n` of its block. -/
def logit (r : Fin 256) (b : Fin 4) (n : Fin 4096) : EReal := dotAt (xstg m ρ b) (wstg m ρ b) r n

/-- A gathered row's device, -/
theorem blk_at (b : Fin 4) (r : Fin 256) (h) : blkOf ⟨256 * b.val + r.val, h⟩ = b := Fin.ext (by show (256 * b.val + r.val) / 256 = b.val; omega)
/-- and its place there. -/
theorem inBlk_at (b : Fin 4) (r : Fin 256) (h) : inBlk ⟨256 * b.val + r.val, h⟩ = r := Fin.ext (by show (256 * b.val + r.val) % 256 = r.val; omega)

/-- The gathered logits; -/
theorem Gfin_at (b : Fin 4) (r : Fin 256) (n : Fin 4096) (h) : Gfin m ρ (ix2 ⟨256 * b.val + r.val, h⟩ n) = logit m ρ r b n := by
  show lgb m ρ (blkOf ⟨256 * b.val + r.val, h⟩) (ix2 (inBlk ⟨256 * b.val + r.val, h⟩) n) = _
  rw [blk_at, inBlk_at]
  exact pay2_at _ _ r n
/-- a row of a device's logits; -/
theorem lg_row (b : Fin 4) (r : Fin 256) : (fun n => lg m ρ b (ix2 r n)) = logit m ρ r b := funext fun n => pay1_at _ _ r n
/-- the gathered maxima; -/
theorem col0_at (b : Fin 4) (r : Fin 256) : col m ρ 0 b (ix2 r 0) = top (logit m ρ r b) := by
  have h : 256 * b.val + r.val < 1024 := by omega
  show k0_pay4 (lg m ρ (blkOf ⟨256 * b.val + r.val, h⟩)) (ix2 (inBlk ⟨256 * b.val + r.val, h⟩) 0) = _
  rw [blk_at, inBlk_at]
  exact (pay4_at _ r).trans (congrArg top (lg_row m ρ b r))
/-- the gathered sums. -/
theorem col1_at (b : Fin 4) (r : Fin 256) : col m ρ 1 b (ix2 r 0) = bsum (logit m ρ r b) := by
  have h : 256 * b.val + r.val < 1024 := by omega
  show k0_pay5 (lg m ρ (blkOf ⟨256 * b.val + r.val, h⟩)) (ix2 (inBlk ⟨256 * b.val + r.val, h⟩) 0) = _
  rw [blk_at, inBlk_at]
  exact (pay5_at _ r).trans (congrArg bsum (lg_row m ρ b r))
/-- The constant of row `r`. -/
theorem Cfin_at (r : Fin 256) : Cfin m ρ (ix2 r 0) = lse (fun b => top (logit m ρ r b)) fun b => bsum (logit m ρ r b) := by
  refine (pay7_at (col m ρ 0) (col m ρ 1) r).trans (congrArg₂ lse ?_ ?_)
  · exact funext fun b => col0_at m ρ b r
  · exact funext fun b => col1_at m ρ b r

/-- The result at row `r`, column `j`. -/
theorem outFin_val (r : Fin 256) (j : Fin 16384) :
    outFin m ρ (ix2 r j) = Ideal.exp (whole (logit m ρ r) j - lse (fun b => top (logit m ρ r b)) fun b => bsum (logit m ρ r b)) := by
  rw [← Cfin_at]
  have h : 256 * (⟨j.val / 4096, by omega⟩ : Fin 4).val + r.val < 1024 := by show 256 * (j.val / 4096) + r.val < 1024; omega
  have hG := Gfin_at m ρ ⟨j.val / 4096, by omega⟩ r ⟨j.val % 4096, by omega⟩ h
  exact congrArg (fun x : EReal => Ideal.exp (x - Cfin m ρ (ix2 r 0))) hG
/-- On finite logits it is the softmax of the row. -/
theorem outFin_soft (r : Fin 256) (j : Fin 16384) (hL : ∀ b n, ∃ x : ℝ, logit m ρ r b n = x) :
    outFin m ρ (ix2 r j) = soft (whole (logit m ρ r)) j :=
  (outFin_val m ρ r j).trans (soft_eq _ hL j)

end Cert.KernelIdealProof

end
-- ==== Proof.ReferenceValue.lean ====
/- What the reference's composed term is over the extended reals, element by element: the softmax of a row of logits. -/
module

public import proofs.«01_k».proof.Proof.Gen.ReferenceIdeal
public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdealProof

open Cert.ReferenceIdeal Cert.ReferenceIdeal.Gen
open Idealize.ShloMosaic
open Cert.Softmax
open Idealize.SL.Sem

/-- The reference's logits, the products of the widened arguments; -/
def refLogits (x : FVec Ideal S256x512 .bf16) (w : FVec Ideal S512x16384 .bf16) : FVec Ideal S256x16384 .f32 :=
  Host.dotGeneral dot_S256x512_S512x16384_S256x16384_1_0_0_1_n_n none (extf .f32 x bitsLt_bf16_f32) (extf .f32 w bitsLt_bf16_f32)
/-- a column of values repeated along the rows; -/
def wide (v : FVec Ideal S256 .f32) : FVec Ideal S256x16384 .f32 :=
  broadcastInDim S256x16384 ![0, 1] bcast_S256x1_S256x16384_0_1 (broadcastInDim S256x1 ![0] bcast_S256_S256x1_0 v)
/-- the exponentials against the rows' maxima; -/
def refExp (l : FVec Ideal S256x16384 .f32) : FVec Ideal S256x16384 .f32 :=
  Host.exp (subf l (wide (Host.reduce FloatOps.maximumf l (constant S_ .f32 0xFF800000#32) reducesTo_S256x16384_S256_d1 h_S_)))
/-- and those over the rows' sums. -/
def refOut (x : FVec Ideal S256x512 .bf16) (w : FVec Ideal S512x16384 .bf16) : FVec Ideal S256x16384 .f32 :=
  Host.divf (refExp (refLogits x w)) (wide (Host.reduceAdd (refExp (refLogits x w)) (constant S_ .f32 0x00000000#32) reducesTo_S256x16384_S256_d1 h_S_))

/-- A logit is a sum of products; -/
theorem refLogits_at (x : FVec Ideal S256x512 .bf16) (w : FVec Ideal S512x16384 .bf16) (r : Fin 256) (j : Fin 16384) :
    refLogits x w (ix2 r j) = (∑ k : Fin 512, x (ix2 r k) * w (ix2 k j) : EReal) := by
  pointwise [refLogits]

/-- its exponential is against its row's maximum; -/
theorem refExp_at (l : FVec Ideal S256x16384 .f32) (r : Fin 256) (j : Fin 16384) :
    refExp l (ix2 r j) = Ideal.exp (l (ix2 r j) - top fun k => l (ix2 r k)) := by
  unfold top
  pointwise [refExp, wide]
  rw [bits_bot]

/-- and the quotient is by its row's sum. -/
theorem refSum_at (e : FVec Ideal S256x16384 .f32) (r : Fin 256) (j : Fin 16384) :
    Host.divf e (wide (Host.reduceAdd e (constant S_ .f32 0x00000000#32) reducesTo_S256x16384_S256_d1 h_S_)) (ix2 r j)
      = Ideal.div (e (ix2 r j)) (0 + ∑ k : Fin 16384, (e (ix2 r k) : EReal)) := by
  pointwise [wide]

/-- The reference at row `r`, column `j`. -/
theorem refOut_at (x : FVec Ideal S256x512 .bf16) (w : FVec Ideal S512x16384 .bf16) (r : Fin 256) (j : Fin 16384) :
    refOut x w (ix2 r j) = soft (fun k => ∑ i : Fin 512, (x (ix2 r i) : EReal) * w (ix2 i k)) j := by
  refine (refSum_at _ r j).trans ?_
  simp only [refExp_at, refLogits_at]
  rfl

/-- From any memory the reference leaves that in its result, and its arguments unchanged. -/
theorem run_ref (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v11) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := Ideal) m g

end Cert.ReferenceIdealProof

end
-- ==== Proof.Finite.lean ====
/- What the precondition says of one device's arguments: every element is a real number. -/
module

public import proofs.«01_k».proof.Proof.Gen.Pre_finite_KernelIdeal
public import Idealize.ShloMosaic.PureOps.Ideal
public import Idealize.ShloMosaic.PureOps.Ideal.Laws
public import Idealize.ShloMosaic.Lib.ReduceAll

@[expose] public section

noncomputable section

namespace Cert.Finite

open Idealize.ShloMosaic Cert.Pre_finite_KernelIdeal Cert.Pre_finite_KernelIdeal.Gen

/-- The elements are compared with the word of minus infinity, -/
theorem bits_lo : Ideal.ofBits .bf16 0xFF80#16 = ⊥ := by simp [Ideal.ofBits, Ideal.ieee]
/-- and that of plus infinity. -/
theorem bits_hi : Ideal.ofBits .bf16 0x7F80#16 = ⊤ := by simp [Ideal.ofBits, Ideal.ieee]

/-- An extended real strictly between the infinities is real. -/
theorem real_of_cmp (x : EReal) (h : IntOp.andi (Ideal.cmp .ogt x (Ideal.ofBits .bf16 0xFF80#16)) (Ideal.cmp .olt x (Ideal.ofBits .bf16 0x7F80#16)) = 1#1) :
    ∃ r : ℝ, x = r := by
  rw [bits_lo, bits_hi] at h
  obtain ⟨h1, h2⟩ := IntOp.andi_eq_one.1 h
  induction x with
  | bot => simp [Ideal.cmp] at h1
  | top => simp [Ideal.cmp] at h2
  | coe r => exact ⟨r, rfl⟩

/-- A scalar has one index. -/
instance : Subsingleton S_.Idx := ⟨fun a b => funext fun i => i.elim0⟩

/-- Where the predicate holds, every element of both arrays is real. -/
theorem real_of_pre (X : FVec Ideal S256x512 .bf16) (W : FVec Ideal S512x4096 .bf16) (h : fn (F := Ideal) X W = fun _ => 1#1) :
    (∀ i, ∃ r : ℝ, (X i : EReal) = r) ∧ ∀ i, ∃ r : ℝ, (W i : EReal) = r := by
  have h0 := congrFun h fun a => a.elim0
  dsimp only [fn] at h0
  obtain ⟨h1, h2⟩ := IntOp.andi_eq_one.1 h0
  exact ⟨fun i => real_of_cmp _ (Host.reduce_andi_all _ _ _ _ _ h1 i), fun i => real_of_cmp _ (Host.reduce_andi_all _ _ _ _ _ h2 i)⟩

end Cert.Finite

end
-- ==== Proof.Algebraic.lean ====
/- The kernel's result is the reference's, over the extended reals, on finite arguments. -/
module

public import proofs.«01_k».proof.Defs
public import proofs.«01_k».proof.Proof.LaunchIdeal
public import proofs.«01_k».proof.Proof.KernelValue
public import proofs.«01_k».proof.Proof.ReferenceValue
public import proofs.«01_k».proof.Proof.Finite

@[expose] public section

set_option maxRecDepth 16384

noncomputable section

namespace Cert.Proof

open Idealize.ShloMosaic Idealize.SL.Sem
open Cert.Softmax

section
open Cert.KernelIdeal Cert.KernelIdeal.Gen Cert.KernelIdealProof

variable (m : (ℓ : Loc nD τ sig) → Buf (Elt Ideal) ℓ) (g : Dev nD → PrngReg)

/-- The block of the activations the kernel works on is the argument itself. -/
theorem xstg_eq (c : Dev nD) : xstg m g c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _
/-- So is the block of the matrix. -/
theorem wstg_eq (c : Dev nD) : wstg m g c = m ((c.tc : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _
end

/-- A sum of products of reals is real. -/
theorem real_dot {n : ℕ} (x w : Fin n → EReal) (hx : ∀ k, ∃ r : ℝ, x k = r) (hw : ∀ k, ∃ r : ℝ, w k = r) :
    ∃ r : ℝ, (∑ k, x k * w k) = (r : EReal) := by
  choose a ha using hx
  choose b hb using hw
  refine ⟨∑ k, a k * b k, ?_⟩
  rw [coe_sum]
  exact Finset.sum_congr rfl fun k _ => by rw [ha, hb, EReal.coe_mul]

/-- The blocks' logits, side by side, are the whole arrays' logits. -/
theorem whole_logits (x : FVec Ideal ⟨2, ![256, 512]⟩ .bf16) (w : FVec Ideal ⟨2, ![512, 16384]⟩ .bf16) (r : Fin 256) (j : Fin 16384) :
    whole (fun b n => Cert.KernelIdealProof.dotAt x (Layout.block ⟨2, ![512, 4096]⟩ ⟨2, ![512, 16384]⟩ 1 4 b w) r n) j
      = ∑ k : Fin 512, (x (ix2 r k) : EReal) * w (ix2 k j) := by
  unfold whole Cert.KernelIdealProof.dotAt
  refine Finset.sum_congr rfl fun k _ => congrArg (fun y : EReal => (x (ix2 r k) : EReal) * y) ?_
  rw [Layout.block_apply]
  refine congrArg w ?_
  funext a
  fin_cases a
  · exact Fin.ext rfl
  · refine Fin.ext ?_
    show j.val / 4096 * 4096 + j.val % 4096 = j.val
    omega

/-- Element by element, the kernel's result on finite arguments is the reference's. -/
theorem outFin_eq (m : (ℓ : Loc Cert.KernelIdeal.nD Cert.KernelIdeal.τ Cert.KernelIdeal.sig) → Buf (Elt Ideal) ℓ) (g : Dev Cert.KernelIdeal.nD → PrngReg)
    (x : FVec Ideal ⟨2, ![256, 512]⟩ .bf16) (w : FVec Ideal ⟨2, ![512, 16384]⟩ .bf16)
    (hx : ∀ c : Dev Cert.KernelIdeal.nD, m ((c.tc : Thread Cert.KernelIdeal.nD Cert.KernelIdeal.τ).loc Cert.KernelIdeal.main_arg0) = x)
    (hw : ∀ c : Dev Cert.KernelIdeal.nD, m ((c.tc : Thread Cert.KernelIdeal.nD Cert.KernelIdeal.τ).loc Cert.KernelIdeal.main_arg1)
      = Layout.block ⟨2, ![512, 4096]⟩ ⟨2, ![512, 16384]⟩ 1 4 c w)
    (hreal : ∀ c : Dev Cert.KernelIdeal.nD,
      (∀ i, ∃ r : ℝ, (m ((c.tc : Thread Cert.KernelIdeal.nD Cert.KernelIdeal.τ).loc Cert.KernelIdeal.main_arg0) i) = (r : EReal))
      ∧ ∀ i, ∃ r : ℝ, (m ((c.tc : Thread Cert.KernelIdeal.nD Cert.KernelIdeal.τ).loc Cert.KernelIdeal.main_arg1) i) = (r : EReal))
    (r : Fin 256) (j : Fin 16384) :
    Cert.KernelIdealProof.outFin m g (ValueIdx.ix2 r j) = Cert.ReferenceIdealProof.refOut x w (ValueIdx.ix2 r j) := by
  have hlog (b : Fin 4) (n : Fin 4096) : Cert.KernelIdealProof.logit m g r b n
      = Cert.KernelIdealProof.dotAt x (Layout.block ⟨2, ![512, 4096]⟩ ⟨2, ![512, 16384]⟩ 1 4 b w) r n := by
    unfold Cert.KernelIdealProof.logit
    rw [xstg_eq, wstg_eq, hx, hw]
  refine (Cert.KernelIdealProof.outFin_soft m g r j fun b n => ?_).trans
    (Eq.trans (congrArg (fun L => soft L j) (funext fun k => ?_)) (Cert.ReferenceIdealProof.refOut_at x w r j).symm)
  · unfold Cert.KernelIdealProof.logit Cert.KernelIdealProof.dotAt
    rw [xstg_eq, wstg_eq]
    exact real_dot _ _ (fun k => (hreal b).1 _) fun k => (hreal b).2 _
  · refine Eq.trans (congrArg (fun L => whole L k) (funext fun b => funext fun n => hlog b n)) ?_
    exact whole_logits x w r k

/-- On finite arguments, cut as the kernel's devices hold them, every device's result is the reference's. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hpre harg
  refine ⟨Cert.ReferenceIdealProof.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_,
    (θ_run _ _ _).mono (fun _ h => h 0) (Cert.ReferenceIdealProof.run_ref m' g')⟩
  have key : Cert.KernelIdealProof.outFin m g = Cert.ReferenceIdealProof.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) := by
    funext i
    rw [ValueIdx.eq_ix2 i]
    exact outFin_eq m g _ _ (fun c => (harg c).1) (fun c => (harg c).2) (fun c => Cert.Finite.real_of_pre _ _ (hpre c)) (i 0) (i 1)
  exact (θ_run _ _ _).mono (fun _ h c => ⟨((h.1 c).1).trans key, (h.1 c).2⟩) (Cert.KernelIdealProof.run_out (F := Ideal) m g)

end Cert.Proof

end
-- ==== Proof.lean ====
/- The proof of the certificate: the three frames (Proof/Frames.lean), that reading the kernel at the extended reals rewrites
   nothing, and that there the kernel's result is the reference's (Proof/Algebraic.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, fun m g _ => frame_ideal m g trivial, frame_reference, fun m g _ => frame_reference m g trivial, trivial, algebraic⟩

end Cert.Proof

end
